-- ==== Defs.lean ====
def Pre_Kernel [hPre_ego_names_a_cav : Cert.Pre_ego_names_a_cav.Facts] (m : (ℓ : Loc Cert.Kernel.nD Cert.Kernel.τ Cert.Kernel.sig) → Buf (Elt Bits) ℓ) : Prop :=
  ∀ c : Dev Cert.Kernel.nD,
    (Cert.Pre_ego_names_a_cav.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ego_names_a_cav : Cert.Pre_ego_names_a_cav.Facts] (m : (ℓ : Loc Cert.KernelIdeal.nD Cert.KernelIdeal.τ Cert.KernelIdeal.sig) → Buf (Elt Ideal) ℓ) : Prop :=
  ∀ c : Dev Cert.KernelIdeal.nD,
    (Cert.Pre_ego_names_a_cav.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_indices_count_from_front [hPre_indices_count_from_front : Cert.Pre_indices_count_from_front.Facts] (m : (ℓ : Loc Cert.KernelIdeal.nD Cert.KernelIdeal.τ Cert.KernelIdeal.sig) → Buf (Elt Ideal) ℓ) : Prop :=
  ∀ c : Dev Cert.KernelIdeal.nD,
    (Cert.Pre_indices_count_from_front.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_count_from_front [hPre_indices_count_from_front : Cert.Pre_indices_count_from_front.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_count_from_front.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ego_names_a_cav : Cert.Pre_ego_names_a_cav.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ego_names_a_cav : Cert.Pre_ego_names_a_cav.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_indices_count_from_front [hKernelIdeal : Cert.KernelIdeal.Facts] [hPre_indices_count_from_front : Cert.Pre_indices_count_from_front.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_count_from_front m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_indices_count_from_front [hReferenceIdeal : Cert.ReferenceIdeal.Facts] [hPre_indices_count_from_front : Cert.Pre_indices_count_from_front.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_count_from_front m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_indices_count_from_front [hKernelIdeal : Cert.KernelIdeal.Facts] [hReferenceIdeal : Cert.ReferenceIdeal.Facts] [hPre_indices_count_from_front : Cert.Pre_indices_count_from_front.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_count_from_front m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ego_names_a_cav : Cert.Pre_ego_names_a_cav.Facts) (hPre_indices_count_from_front : Cert.Pre_indices_count_from_front.Facts),
    quiescent_Kernel (hKernel := hKernel) (hPre_ego_names_a_cav := hPre_ego_names_a_cav)
    ∧ quiescent_KernelIdeal (hKernelIdeal := hKernelIdeal) (hPre_ego_names_a_cav := hPre_ego_names_a_cav)
    ∧ quiescent_KernelIdeal_pre_indices_count_from_front (hKernelIdeal := hKernelIdeal) (hPre_indices_count_from_front := hPre_indices_count_from_front)
    ∧ quiescent_ReferenceIdeal (hReferenceIdeal := hReferenceIdeal)
    ∧ quiescent_ReferenceIdeal_pre_indices_count_from_front (hReferenceIdeal := hReferenceIdeal) (hPre_indices_count_from_front := hPre_indices_count_from_front)
    ∧ preserves_Kernel_KernelIdeal
    ∧ algebraic_KernelIdeal_ReferenceIdeal_pre_indices_count_from_front (hKernelIdeal := hKernelIdeal) (hReferenceIdeal := hReferenceIdeal) (hPre_indices_count_from_front := hPre_indices_count_from_front)
-- ==== Pre_ego_names_a_cav.lean ====
abbrev S1x5x128x65536 : Shape := ⟨4, ![1, 5, 128, 65536]⟩
abbrev S5x128x256x256 : Shape := ⟨4, ![5, 128, 256, 256]⟩
abbrev S32768 : Shape := ⟨1, ![32768]⟩
abbrev S_ : Shape := ⟨0, ![]⟩

class Facts : Prop where

variable [Facts]

def fn {F : FTy → Type} [FloatOps F] (main_arg0 : FVec F S1x5x128x65536 .f32) (main_arg1 : FVec F S5x128x256x256 .f32) (main_arg2 : IVec S32768 32) (main_arg3 : IVec S_ 32) : IVec S_ 1 :=
  let main_c : IVec S_ 32 := constantI S_ 32 4294967291#32
  let main_v0 : IVec S_ 1 := cmpi .sge main_arg3 main_c
  let main_c_0 : IVec S_ 32 := constantI S_ 32 5#32
  let main_v1 : IVec S_ 1 := cmpi .slt main_arg3 main_c_0
  let main_v2 : IVec S_ 1 := andi main_v0 main_v1
  main_v2
-- ==== Pre_indices_count_from_front.lean ====
abbrev S1x5x128x65536 : Shape := ⟨4, ![1, 5, 128, 65536]⟩
abbrev S5x128x256x256 : Shape := ⟨4, ![5, 128, 256, 256]⟩
abbrev S32768 : Shape := ⟨1, ![32768]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : FVec F S1x5x128x65536 .f32) (main_arg1 : FVec F S5x128x256x256 .f32) (main_arg2 : IVec S32768 32) (main_arg3 : IVec S_ 32) : IVec S32768 1 :=
  let main_c : IVec S_ 32 := constantI S_ 32 0#32
  let main_v0 : IVec S32768 32 := broadcastInDim S32768 ![] bcast_S_S32768 main_c
  let main_v1 : IVec S32768 1 := cmpi .sge main_arg2 main_v0
  let main_c_0 : IVec S_ 32 := constantI S_ 32 4294967291#32
  let main_v2 : IVec S_ 1 := cmpi .sge main_arg3 main_c_0
  let main_v3 : IVec S32768 1 := broadcastInDim S32768 ![] bcast_S_S32768 main_v2
  let main_v4 : IVec S32768 1 := andi main_v1 main_v3
  let main_c_1 : IVec S_ 32 := constantI S_ 32 5#32
  let main_v5 : IVec S_ 1 := cmpi .slt main_arg3 main_c_1
  let main_v6 : IVec S32768 1 := broadcastInDim S32768 ![] bcast_S_S32768 main_v5
  let main_v7 : IVec S32768 1 := andi main_v4 main_v6
  main_v7
-- ==== Kernel.lean ====
abbrev S1x5x128x65536 : Shape := ⟨4, ![1, 5, 128, 65536]⟩
abbrev S5x128x256x256 : Shape := ⟨4, ![5, 128, 256, 256]⟩
abbrev S32768 : Shape := ⟨1, ![32768]⟩
abbrev S_ : Shape := ⟨0, ![]⟩
abbrev S1x32768 : Shape := ⟨2, ![1, 32768]⟩
abbrev S5x128x65536 : Shape := ⟨3, ![5, 128, 65536]⟩
abbrev S1 : Shape := ⟨1, ![1]⟩
abbrev S5x128x4096 : Shape := ⟨3, ![5, 128, 4096]⟩
abbrev S1x128x16x256 : Shape := ⟨4, ![1, 128, 16, 256]⟩
abbrev S5x128x16x256 : Shape := ⟨4, ![5, 128, 16, 256]⟩
abbrev S256x256 : Shape := ⟨2, ![256, 256]⟩
abbrev S1x4096 : Shape := ⟨2, ![1, 4096]⟩
abbrev S256x4096 : Shape := ⟨2, ![256, 4096]⟩
abbrev S16x256 : Shape := ⟨2, ![16, 256]⟩
abbrev S1x1x16x256 : Shape := ⟨4, ![1, 1, 16, 256]⟩

abbrev nBuf : Space → Nat
  | .hbm => 12
  | .vmem => 8
  | .smem => 1
  | _ => 0

abbrev bufTy : (tb : Table) → Fin (tcTables nBuf tb) → BufTy
  | .hbm, ⟨0, _⟩ => ⟨S1x5x128x65536, .f32⟩
  | .hbm, ⟨1, _⟩ => ⟨S5x128x256x256, .f32⟩
  | .hbm, ⟨2, _⟩ => ⟨S32768, .i32⟩
  | .hbm, ⟨3, _⟩ => ⟨S_, .i32⟩
  | .hbm, ⟨4, _⟩ => ⟨S1x32768, .i32⟩
  | .hbm, ⟨5, _⟩ => ⟨S5x128x65536, .f32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S5x128x256x256, .f32⟩
  | .local _ .vmem, ⟨0, _⟩ => ⟨S1x32768, .i32⟩
  | .local _ .vmem, ⟨1, _⟩ => ⟨S5x128x4096, .f32⟩
  | .local _ .vmem, ⟨2, _⟩ => ⟨S5x128x4096, .f32⟩
  | .local _ .vmem, ⟨3, _⟩ => ⟨S1x128x16x256, .f32⟩
  | .local _ .vmem, ⟨4, _⟩ => ⟨S1x128x16x256, .f32⟩
  | .local _ .vmem, ⟨5, _⟩ => ⟨S5x128x16x256, .f32⟩
  | .local _ .vmem, ⟨6, _⟩ => ⟨S5x128x16x256, .f32⟩
  | .local _ .vmem, ⟨7, _⟩ => ⟨S256x256, .f32⟩
  | .local _ .smem, ⟨0, _⟩ => ⟨S1, .i32⟩
  | _, _ => ⟨S1x5x128x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v6 : Ref sig .tc := ⟨.hbm, 11, rfl⟩
abbrev main_v5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let c16_i32 : BitVec 32 := 16#32
  let v3 : BitVec 32 := Scalar.muli arg0 c16_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 1 → Memref sig .tc .vmem S1x32768 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x128x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x5x128x65536 : Shape := ⟨4, ![1, 5, 128, 65536]⟩
abbrev S5x128x256x256 : Shape := ⟨4, ![5, 128, 256, 256]⟩
abbrev S32768 : Shape := ⟨1, ![32768]⟩
abbrev S_ : Shape := ⟨0, ![]⟩
abbrev S32768x1 : Shape := ⟨2, ![32768, 1]⟩
abbrev S1x5x128x32768 : Shape := ⟨4, ![1, 5, 128, 32768]⟩
abbrev S1x128x256x256 : Shape := ⟨4, ![1, 128, 256, 256]⟩
abbrev S128x256x256 : Shape := ⟨3, ![128, 256, 256]⟩
abbrev S128x65536 : Shape := ⟨2, ![128, 65536]⟩
abbrev S1x1x128x65536 : Shape := ⟨4, ![1, 1, 128, 65536]⟩

abbrev nBuf : Space → Nat
  | .hbm => 57
  | .vmem => 0
  | .smem => 0
  | _ => 0

abbrev bufTy : (tb : Table) → Fin (tcTables nBuf tb) → BufTy
  | .hbm, ⟨0, _⟩ => ⟨S1x5x128x65536, .f32⟩
  | .hbm, ⟨1, _⟩ => ⟨S5x128x256x256, .f32⟩
  | .hbm, ⟨2, _⟩ => ⟨S32768, .i32⟩
  | .hbm, ⟨3, _⟩ => ⟨S_, .i32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S1x5x128x32768, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x128x256x256, .f32⟩
  | .hbm, ⟨43, _⟩ => ⟨S128x256x256, .f32⟩
  | .hbm, ⟨44, _⟩ => ⟨S128x65536, .f32⟩
  | .hbm, ⟨45, _⟩ => ⟨S1x1x128x65536, .f32⟩
  | .hbm, ⟨46, _⟩ => ⟨S1x5x128x65536, .f32⟩
  | .hbm, ⟨47, _⟩ => ⟨S_, .i32⟩
  | .hbm, ⟨48, _⟩ => ⟨S32768, .i32⟩
  | .hbm, ⟨49, _⟩ => ⟨S32768, .i1⟩
  | .hbm, ⟨50, _⟩ => ⟨S_, .i32⟩
  | .hbm, ⟨51, _⟩ => ⟨S32768, .i32⟩
  | .hbm, ⟨52, _⟩ => ⟨S32768, .i32⟩
  | .hbm, ⟨53, _⟩ => ⟨S32768, .i32⟩
  | .hbm, ⟨54, _⟩ => ⟨S32768x1, .i32⟩
  | .hbm, ⟨55, _⟩ => ⟨S1x5x128x65536, .f32⟩
  | .hbm, ⟨56, _⟩ => ⟨S5x128x256x256, .f32⟩
  | _, _ => ⟨S1x5x128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_c_4 : Ref sig .tc := ⟨.hbm, 19, rfl⟩
abbrev main_v10 : Ref sig .tc := ⟨.hbm, 20, rfl⟩
abbrev main_c_5 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_c_9 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_v14 : Ref sig .tc := ⟨.hbm, 31, rfl⟩
abbrev main_c_12 : Ref sig .tc := ⟨.hbm, 32, rfl⟩
abbrev main_v15 : Ref sig .tc := ⟨.hbm, 33, rfl⟩
abbrev main_c_13 : Ref sig .tc := ⟨.hbm, 34, rfl⟩
abbrev main_c_14 : Ref sig .tc := ⟨.hbm, 35, rfl⟩
abbrev main_v16 : Ref sig .tc := ⟨.hbm, 36, rfl⟩
abbrev main_c_15 : Ref sig .tc := ⟨.hbm, 37, rfl⟩
abbrev main_c_16 : Ref sig .tc := ⟨.hbm, 38, rfl⟩
abbrev main_v17 : Ref sig .tc := ⟨.hbm, 39, rfl⟩
abbrev main_c_17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_18 : Ref sig .tc := ⟨.hbm, 47, rfl⟩
abbrev main_v24 : Ref sig .tc := ⟨.hbm, 48, rfl⟩
abbrev main_v25 : Ref sig .tc := ⟨.hbm, 49, rfl⟩
abbrev main_c_19 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩

abbrev nD : Nat := 1
abbrev τ : Topo := Topo.v7x

variable {F : FTy → Type} [FloatOps F]
-- ==== Proof.Words.lean ====
/- Facts of 32-bit words that name no program: the index of the ego vehicle with a negative one counted from the end, and the
   row and column that a flat index splits into, as the kernel computes them. -/
module

public import Idealize.ShloMosaic.Lib.WordCmp
public import Idealize.ShloMosaic.Lib.WordArith
public import Idealize.ShloMosaic.Lib.Affine
public import Idealize.ShloMosaic.PureOps.Vector

@[expose] public section

namespace Cert.Words

open Idealize.ShloMosaic

/-- The ego index as both programs read it: five is added to a negative one. -/
def egoWord (e : BitVec 32) : BitVec 32 := Scalar.select (IntOp.cmpi .slt e 0#32) (IntOp.addi e 5#32) e

/-- From −5 up to 4 it names one of five. -/
theorem egoWord_lt (e : BitVec 32) (h1 : -5 ≤ e.toInt) (h2 : e.toInt < 5) : (egoWord e).toNat < 5 := by
  unfold egoWord
  rw [WordCmp.cmpi_slt_eq]
  by_cases h : e.toInt < (0#32 : BitVec 32).toInt
  · rw [decide_eq_true h, show BitVec.ofBool true = 1#1 from rfl, WordCmp.select_of_eq_one rfl]
    have h5 : (5#32 : BitVec 32).toInt = 5 := by decide
    have h0 : (0#32 : BitVec 32).toInt = 0 := by decide
    have e1 : (e + 5#32).toInt = e.toInt + 5 := by rw [WordArith.toInt_add_of_bounds _ _ (by omega) (by omega), h5]
    show (e + 5#32).toNat < 5
    have := BitVec.toInt_eq_toNat_cond (e + 5#32)
    have := (e + 5#32).isLt
    split at * <;> omega
  · rw [decide_eq_false h, show BitVec.ofBool false = 0#1 from rfl, WordCmp.select_of_eq_zero rfl]
    have h0 : (0#32 : BitVec 32).toInt = 0 := by decide
    have := BitVec.toInt_eq_toNat_cond e
    have := e.isLt
    split at * <;> omega

/-- The row a flat index lies in, as the kernel computes it: the quotient by 256, less one where the signs differ and something remains. -/
def rowOf (w : BitVec 32) : BitVec 32 :=
  Scalar.select
    (IntOp.andi
      (IntOp.cmpi .ne (IntOp.subi ((IntOp.cmpi .sgt w 0#32).setWidth 32) ((IntOp.cmpi .slt w 0#32).setWidth 32))
        (Scalar.subi (Scalar.extui (Scalar.cmpi .sgt 256#32 0#32)) (Scalar.extui (Scalar.cmpi .slt 256#32 0#32))))
      (IntOp.cmpi .ne (IntOp.remsi .vector w 256#32) 0#32))
    (IntOp.subi (IntOp.divsi .vector w 256#32) 1#32) (IntOp.divsi .vector w 256#32)

/-- The column of a flat index, as the kernel computes it: the remainder by 256, with 256 added where it is negative. -/
def colOf (w : BitVec 32) : BitVec 32 :=
  Scalar.select
    (IntOp.andi
      (IntOp.xori (IntOp.cmpi .slt (IntOp.remsi .vector w 256#32) 0#32) (Scalar.cmpi .slt 256#32 0#32))
      (IntOp.cmpi .ne (IntOp.remsi .vector w 256#32) 0#32))
    (IntOp.addi (IntOp.remsi .vector w 256#32) 256#32) (IntOp.remsi .vector w 256#32)

variable {w : BitVec 32} (hw : w.toNat < 2 ^ 31)
include hw

theorem divsi_256 : IntOp.divsi .vector w 256#32 = BitVec.ofNat 32 (w.toNat / 256) := by
  have hcorner : ¬ IntOp.SDivCorner w 256#32 := by
    intro hc; rcases hc with hc | ⟨_, hc⟩ <;> exact absurd hc (by decide)
  have hm : w.msb = false := BitVec.msb_eq_false_iff_two_mul_lt.mpr (by omega)
  apply BitVec.eq_of_toNat_eq
  rw [BitVec.toNat_ofNat, Nat.mod_eq_of_lt (by omega)]
  simp only [IntOp.divsi, if_neg hcorner, BitVec.sdiv_eq, hm, show (256#32 : BitVec 32).msb = false from by decide, BitVec.udiv_eq,
    BitVec.toNat_udiv, BitVec.toNat_ofNat]

theorem remsi_256 : IntOp.remsi .vector w 256#32 = BitVec.ofNat 32 (w.toNat % 256) := by
  have hcorner : ¬ IntOp.SDivCorner w 256#32 := by
    intro hc; rcases hc with hc | ⟨_, hc⟩ <;> exact absurd hc (by decide)
  have hm : w.msb = false := BitVec.msb_eq_false_iff_two_mul_lt.mpr (by omega)
  apply BitVec.eq_of_toNat_eq
  rw [BitVec.toNat_ofNat, Nat.mod_eq_of_lt (by omega)]
  simp only [IntOp.remsi, if_neg hcorner, BitVec.srem_eq, hm, show (256#32 : BitVec 32).msb = false from by decide, BitVec.umod_eq,
    BitVec.toNat_umod, BitVec.toNat_ofNat]

/-- A nonnegative index lies in row `w / 256`. -/
theorem rowOf_eq : rowOf w = BitVec.ofNat 32 (w.toNat / 256) := by
  unfold rowOf
  rw [remsi_256 hw, divsi_256 hw]
  refine WordCmp.select_of_eq_zero ?_ _ _
  have hs : IntOp.cmpi .slt w 0#32 = 0#1 := by
    rw [WordCmp.cmpi_slt_zero]; rw [decide_eq_false (by omega)]; rfl
  by_cases h : w.toNat = 0
  · have : BitVec.ofNat 32 (w.toNat % 256) = 0#32 := by rw [h]
    rw [this]
    show _ &&& _ = _
    rw [show IntOp.cmpi .ne (0#32 : BitVec 32) 0#32 = 0#1 from by decide, BitVec.and_zero]
  · have hg : IntOp.cmpi .sgt w 0#32 = 1#1 := by
      rw [WordCmp.cmpi_sgt_eq, decide_eq_true]; · rfl
      rw [WordCmp.toInt_eq_toNat_of_lt_half (x := w) (by omega), show (0#32 : BitVec 32).toInt = 0 from by decide]
      omega
    rw [hg, hs]
    show _ &&& _ = _
    rw [show IntOp.cmpi .ne (IntOp.subi ((1#1 : BitVec 1).setWidth 32) ((0#1 : BitVec 1).setWidth 32))
        (Scalar.subi (Scalar.extui (Scalar.cmpi .sgt 256#32 0#32)) (Scalar.extui (Scalar.cmpi .slt 256#32 0#32))) = 0#1 from by decide,
      BitVec.zero_and]

/-- A nonnegative index lies in column `w % 256`. -/
theorem colOf_eq : colOf w = BitVec.ofNat 32 (w.toNat % 256) := by
  unfold colOf
  rw [remsi_256 hw]
  refine WordCmp.select_of_eq_zero ?_ _ _
  have hs : IntOp.cmpi .slt (BitVec.ofNat 32 (w.toNat % 256)) 0#32 = 0#1 := by
    rw [WordCmp.cmpi_slt_zero, BitVec.toNat_ofNat]; rw [decide_eq_false (by omega)]; rfl
  rw [hs, show IntOp.xori (0#1 : BitVec 1) (Scalar.cmpi .slt 256#32 0#32) = 0#1 from by decide]
  show _ &&& _ = _
  rw [BitVec.zero_and]

end Cert.Words
-- ==== Proof.EgoIdeal.lean ====
/- The prefetched table of the idealized kernel's program holds the ego index, a negative one counted from the end; from the
   precondition it names one of the five vehicles, so the block that the third window stages lies inside its array. -/
module

public import proofs.«01_k».proof.Proof.Gen.KernelIdeal.Frame.Runs
public import proofs.«01_k».proof.Proof.Words
public import Idealize.ShloMosaic.Lib.Claim
public import Idealize.ShloMosaic.Lib.StableHlo.Run
public import Idealize.ShloMosaic.Lib.StableHlo.RunClose

@[expose] public section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The ego argument's one word. -/
def egoArg : BitVec 32 := m ((0 : Dev nD).tc.loc main_arg3) (fun a => a.elim0)

/-- The table's one word is the ego index as both programs read it. -/
theorem table_word (x : S1.Idx) : tbl m 0 x = Words.egoWord (egoArg m) := by
  show V m 0 main_v5 x = _
  unfold V
  simp only [hostOps0, hostOps0_1, hostOps0_2, List.flatten_cons, List.flatten_nil, List.append_nil, List.cons_append, List.nil_append]
  after_results_simp_entrywise
  exact congrArg (fun y => Words.egoWord (m ((0 : Dev nD).tc.loc main_arg3) y)) (funext fun a => a.elim0)

/-- Where the ego index is from −5 up to 4, the pipeline's side condition of the table holds. -/
theorem ok_of_ego (h1 : -5 ≤ (egoArg m).toInt) (h2 : (egoArg m).toInt < 5) : Ok m := by
  have hlt := Words.egoWord_lt _ h1 h2
  intro i
  have hw : (tbl m).at 0 (Rect.unit (s := S1) ![0] S1.size inb_S1_S1_0) numel1_S1 = Words.egoWord (egoArg m) :=
    table_word m _
  refine ⟨fun a => ?_, Or.inl rfl⟩
  have hi : (i 0).val < 16 := (i 0).isLt
  have hiw : (BitVec.ofNat 32 (i 0).val).toNat = (i 0).val := by
    rw [BitVec.toNat_ofNat]; omega
  unfold cc0_transform_2
  dsimp only
  rw [hw, hiw]
  fin_cases a
  · show ((Words.egoWord (egoArg m)).toNat + 1) * 1 ≤ 5; omega
  · show (0 + 1) * 128 ≤ 128; omega
  · show ((i 0).val + 1) * 16 ≤ 256; omega
  · show (0 + 1) * 256 ≤ 256; omega

end Cert.KernelIdeal.Hand
-- ==== Proof.Pieces.lean ====
/- What the kernel's body leaves, as terms: the mask that the first grid point writes into the scratch, a sum of eight
   one-hot products over the eight stretches of the index list, and the block that every grid point stores. -/
module

public import proofs.«01_k».proof.Proof.Gen.KernelIdeal.Frame.RunB
public import Idealize.ShloMosaic.Lib.VecWindow
public import Idealize.ShloMosaic.Lib.WholeRead

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-- The divisor of the remainder: the program replaces a zero by a one, and 256 is no zero. -/
theorem modulus_eq : Scalar.select (Scalar.cmpi .eq 256#32 0#32) 1#32 256#32 = 256#32 := rfl

/-- The row word of each index in a stretch: the index divided by 256, rounded down. -/
def rowWord (ix : IVec S1x4096 32) : IVec S1x4096 32 :=
  select
    (andi
      (cmpi .ne
        (subi (extui 32 (cmpi .sgt ix (broadcast S1x4096 0#32)) natLt_1_32)
          (extui 32 (cmpi .slt ix (broadcast S1x4096 0#32)) natLt_1_32))
        (broadcast S1x4096
          (Scalar.subi (Scalar.extui (Scalar.cmpi .sgt 256#32 0#32)) (Scalar.extui (Scalar.cmpi .slt 256#32 0#32)))))
      (cmpi .ne (remsi ix (broadcast S1x4096 256#32)) (broadcast S1x4096 0#32)))
    (subi (divsi ix (broadcast S1x4096 256#32)) (broadcast S1x4096 1#32))
    (divsi ix (broadcast S1x4096 256#32))

/-- The column word of each index in a stretch: its remainder by 256. -/
def colWord (ix : IVec S1x4096 32) : IVec S1x4096 32 :=
  select
    (andi
      (xori (cmpi .slt (remsi ix (broadcast S1x4096 256#32)) (broadcast S1x4096 0#32))
        (broadcastTo S1x4096 (broadcast S1x4096 (Scalar.cmpi .slt 256#32 0#32)) broadcasts_S1x4096_S1x4096))
      (cmpi .ne (remsi ix (broadcast S1x4096 256#32)) (broadcast S1x4096 0#32)))
    (addi (remsi ix (broadcast S1x4096 256#32)) (broadcast S1x4096 256#32))
    (remsi ix (broadcast S1x4096 256#32))

/-- One row of ones and zeros for each number below 256: a one where the word is that number. -/
def oneHot (w : IVec S1x4096 32) : FVec F S256x4096 .bf16 :=
  truncf .bf16
    (sitofp .f32
      (extui 32
        (cmpi .eq (broadcastTo S256x4096 w broadcasts_S1x4096_S256x4096)
          (iota .tc S256x4096 32 [0] iota_S256x4096_d0_w32)) natLt_1_32)) bitsLt_bf16_f32

/-- One stretch's part of the sum: the product of its row and column one-hots, added. -/
def addStretch (acc : FVec F S256x256 .f32) (ix : IVec S1x4096 32) : FVec F S256x256 .f32 :=
  addf acc (matmul dot_S256x4096_S256x4096_S256x256_1_1_0_0_n_n none (oneHot (rowWord ix)) (oneHot (colWord ix))
    (constant S256x256 .f32 0x00000000#32))

/-- The stretch of 4096 indices from `off` on. -/
def stretch (x0 : Vec F S1x32768 .i32) (off : Fin 2 → ℕ) (h : ∀ a, off a + S1x4096.size a ≤ S1x32768.size a) : Vec F S1x4096 .i32 :=
  fun y => x0 ((Rect.unit (s := S1x32768) off S1x4096.size h).idx y)

/-- A stretch is what a load there reads. -/
theorem stretch_eq (arg2 : Memref sig .tc .vmem S1x32768 .i32) (harg2 : arg2.IsWhole) (x0 : Vec F S1x32768 .i32) (off : Fin 2 → ℕ)
    (h : ∀ a, off a + S1x4096.size a ≤ S1x32768.size a) :
    stretch x0 off h = View.readAt (Elt F) arg2.view (Rect.unit (s := S1x32768) off S1x4096.size h).toLoadRect (harg2.unread x0) :=
  funext fun y => (harg2.readAt_unread x0 (Rect.unit (s := S1x32768) off S1x4096.size h).toLoadRect y).symm

/-- The mask: every stretch's part, added to zeros. -/
def maskSum (x0 : Vec F S1x32768 .i32) : FVec F S256x256 .f32 :=
  addStretch (addStretch (addStretch (addStretch (addStretch (addStretch (addStretch (addStretch
    (broadcast S256x256 (Scalar.ofBits .f32 0x00000000#32))
    (shapeCast S1x4096 (stretch x0 ![0, 0] inb_S1x32768_S1x4096_0_0) shapeCasts_S1x4096_S1x4096))
    (shapeCast S1x4096 (stretch x0 ![0, 4096] inb_S1x32768_S1x4096_0_4096) shapeCasts_S1x4096_S1x4096))
    (shapeCast S1x4096 (stretch x0 ![0, 8192] inb_S1x32768_S1x4096_0_8192) shapeCasts_S1x4096_S1x4096))
    (shapeCast S1x4096 (stretch x0 ![0, 12288] inb_S1x32768_S1x4096_0_12288) shapeCasts_S1x4096_S1x4096))
    (shapeCast S1x4096 (stretch x0 ![0, 16384] inb_S1x32768_S1x4096_0_16384) shapeCasts_S1x4096_S1x4096))
    (shapeCast S1x4096 (stretch x0 ![0, 20480] inb_S1x32768_S1x4096_0_20480) shapeCasts_S1x4096_S1x4096))
    (shapeCast S1x4096 (stretch x0 ![0, 24576] inb_S1x32768_S1x4096_0_24576) shapeCasts_S1x4096_S1x4096))
    (shapeCast S1x4096 (stretch x0 ![0, 28672] inb_S1x32768_S1x4096_0_28672) shapeCasts_S1x4096_S1x4096)

variable (acc : FVec F S256x256 .f32) (v : Vec F S1x4096 .i32)

theorem step0 : k0_pay10 acc (k0_pay5 v) 256#32 (k0_pay6 v) (k0_pay7 v) (k0_pay8 v) k0_pay9
    = addStretch acc (shapeCast S1x4096 v shapeCasts_S1x4096_S1x4096) := rfl

theorem step1 : k0_pay13 acc (k0_pay11 v) (k0_pay12 v) 256#32 = addStretch acc (shapeCast S1x4096 v shapeCasts_S1x4096_S1x4096) := rfl

theorem step2 : k0_pay18 acc (k0_pay14 v) (k0_pay15 v) (k0_pay16 v) (k0_pay17 v)
    = addStretch acc (shapeCast S1x4096 v shapeCasts_S1x4096_S1x4096) := rfl

theorem step3 : k0_pay22 acc (k0_pay19 v) 256#32 (k0_pay20 v) (k0_pay21 v) (Scalar.extui (Scalar.cmpi .sgt 256#32 0#32))
      (Scalar.extui (Scalar.cmpi .slt 256#32 0#32))
    = addStretch acc (shapeCast S1x4096 v shapeCasts_S1x4096_S1x4096) := rfl

theorem step4 : k0_pay28 acc (k0_pay26 (k0_pay23 v) 256#32 (k0_pay24 v) (k0_pay25 v)) (k0_pay27 (k0_pay23 v)) (constant S256x256 .f32 0x00000000#32)
    = addStretch acc (shapeCast S1x4096 v shapeCasts_S1x4096_S1x4096) := rfl

theorem step5 : k0_pay35 acc (k0_pay30 v) 256#32 (k0_pay31 v) (k0_pay32 v) (k0_pay33 v) k0_pay34
    = addStretch acc (shapeCast S1x4096 v shapeCasts_S1x4096_S1x4096) := rfl

theorem step6 : k0_pay38 acc (k0_pay36 v) (k0_pay37 v) 256#32 = addStretch acc (shapeCast S1x4096 v shapeCasts_S1x4096_S1x4096) := rfl

theorem step7 : k0_pay1 acc (k0_pay39 v) (k0_pay40 v) (k0_pay41 v) (k0_pay42 v)
    = shapeCast S256x256 (addStretch acc (shapeCast S1x4096 v shapeCasts_S1x4096_S1x4096)) shapeCasts_S256x256_S256x256 := rfl

theorem start_eq : k0_pay3 (F := F) = broadcast S256x256 (Scalar.ofBits .f32 0x00000000#32) := rfl

/-- What the first point stores into the scratch: the mask, whole. -/
theorem scratch_pieces (c : Dev nD) (arg2 : Memref sig .tc .vmem S1x32768 .i32) (harg2 : arg2.IsWhole) (x0 : Vec F S1x32768 .i32) :
    kernelRun0_A.sl.HS0_1 c arg2 harg2 x0
      = [⟨Rect.unit (s := S256x256) ![0, 0] S256x256.size inb_S256x256_S256x256_0_0,
          shapeCast S256x256 (maskSum x0) shapeCasts_S256x256_S256x256⟩] := by
  unfold maskSum
  rw [stretch_eq arg2 harg2 x0 ![0, 0], stretch_eq arg2 harg2 x0 ![0, 4096], stretch_eq arg2 harg2 x0 ![0, 8192],
    stretch_eq arg2 harg2 x0 ![0, 12288], stretch_eq arg2 harg2 x0 ![0, 16384], stretch_eq arg2 harg2 x0 ![0, 20480],
    stretch_eq arg2 harg2 x0 ![0, 24576], stretch_eq arg2 harg2 x0 ![0, 28672]]
  rw [← step7, ← step6, ← step5, ← step4, ← step3, ← step2, ← step1, ← step0, ← start_eq]
  rfl

/-- The scratch after the first point: the mask. -/
def maskBlock (x0 : Vec F S1x32768 .i32) : Vec F S256x256 .f32 := shapeCast S256x256 (maskSum x0) shapeCasts_S256x256_S256x256

/-- The sixteen rows of the scratch that point `i` reads. -/
def maskRows (i : grid0.Coords) (xs : Vec F S256x256 .f32) : Vec F S16x256 .f32 :=
  fun y => xs ((Rect.unit (s := S256x256) (k0_off1 i) S16x256.size (k0_off1_inb i)).idx y)

/-- The block that point `i` stores, from the scratch and the blocks of the two other inputs. -/
def outBlock (i : grid0.Coords) (xs : Vec F S256x256 .f32) (x1 : Vec F S5x128x4096 .f32) (x2 : Vec F S1x128x16x256 .f32) :
    Vec F S5x128x16x256 .f32 := k0_pay2 (maskRows i xs) x1 x2

section
variable (c : Dev nD) (i : grid0.Coords) (arg2 : Memref sig .tc .vmem S1x32768 .i32) (harg2 : arg2.IsWhole)
  (arg3 : Memref sig .tc .vmem S5x128x4096 .f32) (harg3 : arg3.IsWhole) (arg4 : Memref sig .tc .vmem S1x128x16x256 .f32) (harg4 : arg4.IsWhole)
  (arg5 : Memref sig .tc .vmem S5x128x16x256 .f32) (harg5 : arg5.IsWhole) (arg6 : Memref sig .tc .vmem S256x256 .f32) (harg6 : arg6.IsWhole)
  (x0 : Vec F S1x32768 .i32) (x1 : Vec F S5x128x4096 .f32) (x2 : Vec F S1x128x16x256 .f32) (xt0 : TbBuf0 (F := F) c tbM0_0)

/-- A load of the whole block of the second input. -/
theorem load_x1 : View.readAt (Elt F) arg3.view (Rect.unit (s := S5x128x4096) ![0, 0, 0] S5x128x4096.size inb_S5x128x4096_S5x128x4096_0_0_0).toLoadRect
    (harg3.unread x1) = x1 := by
  rw [View.readAt_full]
  exact harg3.read_unread x1

/-- A load of the whole block of the third input. -/
theorem load_x2 : View.readAt (Elt F) arg4.view
    (Rect.unit (s := S1x128x16x256) ![0, 0, 0, 0] S1x128x16x256.size inb_S1x128x16x256_S1x128x16x256_0_0_0_0).toLoadRect (harg4.unread x2) = x2 := by
  rw [View.readAt_full]
  exact harg4.read_unread x2

/-- The pieces a later point stores into its output block: one, the whole block. -/
theorem out_pieces_later (hc0 : ¬cond0_0 i) (xs0 : Vec F S256x256 .f32) :
    (kernelRun0_B c i arg2 harg2 arg3 harg3 arg4 harg4 arg5 harg5 arg6 harg6 hc0 x0 x1 x2 xt0 xs0).1
      = [⟨Rect.unit (s := S5x128x16x256) ![0, 0, 0, 0] S5x128x16x256.size inb_S5x128x16x256_S5x128x16x256_0_0_0_0, outBlock i xs0 x1 x2⟩] := by
  have hr : maskRows i xs0
      = View.readAt (Elt F) arg6.view (Rect.unit (s := S256x256) (k0_off1 i) S16x256.size (k0_off1_inb i)).toLoadRect (harg6.unread xs0) :=
    funext fun y => (harg6.readAt_unread xs0 (Rect.unit (s := S256x256) (k0_off1 i) S16x256.size (k0_off1_inb i)).toLoadRect y).symm
  unfold outBlock
  rw [hr]
  conv_rhs => rw [← load_x1 arg3 harg3 x1, ← load_x2 arg4 harg4 x2]
  unfold kernelRun0_B
  rfl

/-- The pieces the first point stores into its output block: one, the whole block, from the mask it has just stored. -/
theorem out_pieces_first (hc0 : cond0_0 i) :
    (kernelRun0_A c i arg2 harg2 arg3 harg3 arg4 harg4 arg5 harg5 arg6 harg6 hc0 x0 x1 x2 xt0).1
      = [⟨Rect.unit (s := S5x128x16x256) ![0, 0, 0, 0] S5x128x16x256.size inb_S5x128x16x256_S5x128x16x256_0_0_0_0,
          outBlock i (maskBlock x0) x1 x2⟩] := by
  have hr : maskRows i (maskBlock x0)
      = View.readAt (Elt F) arg6.view (Rect.unit (s := S256x256) (k0_off1 i) S16x256.size (k0_off1_inb i)).toLoadRect
          (arg6.view.writes (Elt F) arg6.view.junk (kernelRun0_A.sl.HS0_1 c arg2 harg2 x0)) := by
    rw [scratch_pieces, View.readAt_eq_ld, View.read_writes_full]
    rfl
  unfold outBlock
  rw [hr]
  conv_rhs => rw [← load_x1 arg3 harg3 x1, ← load_x2 arg4 harg4 x2]
  unfold kernelRun0_A
  rfl

/-- The pieces the first point stores into the scratch: one, the mask. -/
theorem scratch_pieces_first (hc0 : cond0_0 i) :
    (kernelRun0_A c i arg2 harg2 arg3 harg3 arg4 harg4 arg5 harg5 arg6 harg6 hc0 x0 x1 x2 xt0).2.1
      = [⟨Rect.unit (s := S256x256) ![0, 0] S256x256.size inb_S256x256_S256x256_0_0, maskBlock x0⟩] := by
  refine Eq.trans ?_ (scratch_pieces c arg2 harg2 x0)
  unfold kernelRun0_A
  rfl

/-- The output block read back after the first point's stores. -/
theorem read_out_first (hc0 : cond0_0 i) (f : arg5.view.ty.Contents (Elt F)) :
    arg5.view.read (Elt F) (arg5.view.writes (Elt F) f
        (kernelRun0_A c i arg2 harg2 arg3 harg3 arg4 harg4 arg5 harg5 arg6 harg6 hc0 x0 x1 x2 xt0).1)
      = outBlock i (maskBlock x0) x1 x2 := by
  rw [out_pieces_first, View.read_writes_full]

/-- The scratch read back after the first point's stores. -/
theorem read_scratch_first (hc0 : cond0_0 i) (f : arg6.view.ty.Contents (Elt F)) :
    arg6.view.read (Elt F) (arg6.view.writes (Elt F) f
        (kernelRun0_A c i arg2 harg2 arg3 harg3 arg4 harg4 arg5 harg5 arg6 harg6 hc0 x0 x1 x2 xt0).2.1)
      = maskBlock x0 := by
  rw [scratch_pieces_first, View.read_writes_full]

/-- The output block read back after a later point's stores. -/
theorem read_out_later (hc0 : ¬cond0_0 i) (xs0 : Vec F S256x256 .f32) (f : arg5.view.ty.Contents (Elt F)) :
    arg5.view.read (Elt F) (arg5.view.writes (Elt F) f
        (kernelRun0_B c i arg2 harg2 arg3 harg3 arg4 harg4 arg5 harg5 arg6 harg6 hc0 x0 x1 x2 xt0 xs0).1)
      = outBlock i xs0 x1 x2 := by
  rw [out_pieces_later, View.read_writes_full]

end

end Cert.KernelIdeal.Hand

end
-- ==== Proof.IdealFrame.lean ====
/- The run of the idealized kernel's program. The scratch holds the mask of the index list from the first grid point on, so what each point
   stores is known in closed form (`Pieces.lean`), and the invariant between points only names the mask. -/
module

public import proofs.«01_k».proof.Proof.Pieces
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def first (hO : Ok m) : Fin (cfgM m hO).N := ⟨0, by rw [show (cfgM m hO).N = 16 from N_0]; exact Nat.succ_pos 15⟩

/-- The mask the first point computes from its block of the index list, which is the whole list. -/
def mask (hO : Ok m) (c : Dev nD) : Vec F S256x256 .f32 := maskBlock (iblk m hO c 0 (first m hO))

/-- The invariant before position `n`: before the first point the scratch holds anything, afterwards the mask. -/
def PhiS (hO : Ok m) (c : Dev nD) : (n : ℕ) → sProp 𝕄
  | 0 => iprop(Pipeline.ΦA spec0 c ∗ Pipeline.ΦT pre0 (tbl m) c)
  | _ + 1 => iprop(iprop(iprop(owns (c : Thread nD τ) scM0_0 fullShare (mask m hO c)) ∗ (∃ r, prngReg c r)) ∗ Pipeline.ΦT pre0 (tbl m) c)

theorem PhiS_pos (hO : Ok m) (c : Dev nD) (n : ℕ) (hz : n ≠ 0) :
    PhiS m hO c n
      = iprop(iprop(iprop(owns (c : Thread nD τ) scM0_0 fullShare (mask m hO c)) ∗ (∃ r, prngReg c r)) ∗ Pipeline.ΦT pre0 (tbl m) c) := by
  cases n with
  | zero => exact absurd rfl hz
  | succ n => rfl

/-- The pipeline's data: each input's buffer keeps its block, the output's holds the selected block. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outBlock (grid0.coords t) (mask m hO c) (iblk m hO c 1 t) (iblk m hO c 2 t)
  Φ t := PhiS m hO c t.val
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) :
    (dats m hO 0 c).after 3 t = outBlock (grid0.coords t) (mask m hO c) (iblk m hO c 1 t) (iblk m hO c 2 t) := by dsimp only [dats]; try rfl

theorem before0 (hO : Ok m) (c : Dev nD) (t : Fin (cfgM m hO).N) (d) : (dats m hO 0 c).before 0 t d = iblk m hO c 0 t :=
  before0_0_of m hO (dats m hO 0 c) (A_eq m hO c 0) (after0 m hO c) t d
theorem before1 (hO : Ok m) (c : Dev nD) (t : Fin (cfgM m hO).N) (d) : (dats m hO 0 c).before 1 t d = iblk m hO c 1 t :=
  before0_1_of m hO (dats m hO 0 c) (A_eq m hO c 1) (after1 m hO c) t d
theorem before2 (hO : Ok m) (c : Dev nD) (t : Fin (cfgM m hO).N) (d) : (dats m hO 0 c).before 2 t d = iblk m hO c 2 t :=
  before0_2_of m hO (dats m hO 0 c) (A_eq m hO c 2) (after2 m hO c) t d

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

/-- The body at the first point: it stores the mask into the scratch and its own block into the output. -/
theorem sound_first (hO : Ok m) (c : Dev nD) (t : Fin (cfgM m hO).N) (h0 : t.val % 16 = 0) (hz : t.val = 0) :
    bodyPre m hO c t ⊢ wp frame (wpE (defs₀ (F := F)) Variants.none c none) Set.univ (bodyAt0 (adm m hO) t) (fun _ => bodyPost m hO c t) := by
  have ht : t = first m hO := Fin.ext hz
  unfold bodyPre bodyPost bodyAt0
  simp only [before0, before1, before2]
  rw [show (dats m hO 0 c).owesAt () t.succ = (dats m hO 0 c).owesAt () t.castSucc from rfl, after0, after1, after2, after3]
  rw [show (dats m hO 0 c).Φ t.succ = PhiS m hO c (t.val + 1) from rfl, PhiS_pos m hO c _ (Nat.succ_ne_zero _),
    show (dats m hO 0 c).Φ t.castSucc = PhiS m hO c t.val from rfl, hz,
    show PhiS m hO c 0 = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩⟩
  iapply ((kernelRun0_A c (grid0.coords t) _ _ _ _ _ _ _ _ _ _ ((hcond0_0 t).mpr h0) (iblk m hO c 0 t) (iblk m hO c 1 t) (iblk m hO c 2 t)
    (tbl m 0)).2.2 Set.univ _)
  isplitl [H0]; · iexact H0
  isplitl [H1]; · iexact H1
  isplitl [H2]; · iexact H2
  isplitl [H3]; · iexists _; iexact H3
  isplitl [HS0]; · iexact HS0
  isplitl [HT0]; · iexact HT0
  iintro ⟨H0, H1, H2, ⟨%e3, H3⟩, ⟨%es0, HS0⟩, HT0⟩
  isplitl [HS0 Hg HT0]
  · isplitl [HS0 Hg]
    · isplitl [HS0]
      · unfold owns; iexists _; isplitr
        swap; · iexact HS0
        ipureintro
        refine (read_scratch_first c _ _ _ _ _ _ _ _ _ _ _ _ _ _ _ _ _).trans ?_
        rw [ht]
        rfl
      iexact Hg
    iexact HT0
  isplitl [Ho]; · iexact Ho
  isplitl [H0]; · iexact H0
  isplitl [H1]; · iexact H1
  isplitl [H2]; · iexact H2
  unfold owns; iexists _; isplitr
  swap; · iexact H3
  ipureintro
  refine (read_out_first c _ _ _ _ _ _ _ _ _ _ _ _ _ _ _ _ _).trans ?_
  rw [ht]
  rfl

/-- The body at a later point: it reads the mask and leaves it. -/
theorem sound_later (hO : Ok m) (c : Dev nD) (t : Fin (cfgM m hO).N) (h0 : ¬t.val % 16 = 0) (hz : t.val ≠ 0) :
    bodyPre m hO c t ⊢ wp frame (wpE (defs₀ (F := F)) Variants.none c none) Set.univ (bodyAt0 (adm m hO) t) (fun _ => bodyPost m hO c t) := by
  unfold bodyPre bodyPost bodyAt0
  simp only [before0, before1, before2]
  rw [show (dats m hO 0 c).owesAt () t.succ = (dats m hO 0 c).owesAt () t.castSucc from rfl, after0, after1, after2, after3]
  rw [show (dats m hO 0 c).Φ t.succ = PhiS m hO c (t.val + 1) from rfl, PhiS_pos m hO c _ (Nat.succ_ne_zero _),
    show (dats m hO 0 c).Φ t.castSucc = PhiS m hO c t.val from rfl, PhiS_pos m hO c _ hz, PhiT0_eq]
  iintro ⟨⟨⟨HS0, Hg⟩, HT0⟩, Ho, ⟨%d0, H0⟩, ⟨%d1, H1⟩, ⟨%d2, H2⟩, ⟨%d3, H3⟩⟩
  iapply ((kernelRun0_B c (grid0.coords t) _ _ _ _ _ _ _ _ _ _ (fun h => h0 ((hcond0_0 t).mp h)) (iblk m hO c 0 t) (iblk m hO c 1 t)
    (iblk m hO c 2 t) (tbl m 0) (mask m hO c)).2.2 Set.univ _)
  isplitl [H0]; · iexact H0
  isplitl [H1]; · iexact H1
  isplitl [H2]; · iexact H2
  isplitl [H3]; · iexists _; iexact H3
  isplitl [HS0]; · iexact HS0
  isplitl [HT0]; · iexact HT0
  iintro ⟨H0, H1, H2, ⟨%e3, H3⟩, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  unfold owns; iexists _; isplitr
  swap; · iexact H3
  ipureintro
  exact read_out_later c _ _ _ _ _ _ _ _ _ _ _ _ _ _ _ _ _ _

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  have hN : t.val < 16 := lt_of_lt_of_eq t.isLt (show (cfgM m hO).N = 16 from N_0)
  by_cases hz : t.val = 0
  · exact sound_first m hO c t (by omega) hz
  · exact sound_later m hO c t (by omega) hz

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands over is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = iprop(Pipeline.ΦA spec0 c ∗ Pipeline.ΦT pre0 (tbl m) c) from rfl]

/-- After the last point the scratch's contents are forgotten. -/
theorem hout (hO : Ok m) (c : Dev nD) : (dats m hO 0 c).Φ (Fin.last (cfgM m hO).N) ⊢ Pipeline.ΦA spec0 c := by
  have hN : (cfgM m hO).N = 16 := N_0
  rw [show (dats m hO 0 c).Φ (Fin.last (cfgM m hO).N) = PhiS m hO c (cfgM m hO).N from rfl, PhiS_pos m hO c _ (by omega), PhiA0_eq]
  iintro ⟨⟨HS0, Hg⟩, -⟩
  isplitl [HS0]
  · iexists _; iexact HS0
  iexact Hg

set_option backward.isDefEq.respectTransparency.types false in
/-- The launch, with every semaphore counter at zero at the end. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- Every array of the pipeline ends at what its data say, every other buffer as the region found it. -/
theorem run_main (hO : Ok m) : θ_run defs (onTc (τ := τ) (main (F := F))) (s₀ m ρ)
    (Pipeline.FramePost (Pipeline.pin pcfgs fun _ => adm m hO) (dats m hO) 0 (V m)) :=
  (θ_run defs _ _).mono (fun _ h => h.1) (run_main_quiescent m ρ hO)

/-- The arguments end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- The frame: the arguments end unchanged and every counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Hand

end
-- ==== Proof.KernelFrame.lean ====
/- The kernel's frame. Nothing of the kernel is rewritten in its idealization, so the two programs are one text, read over the
   machine's words in the one and over the extended reals in the other; the idealization's frame is proved whatever the entries
   are, so it is the kernel's frame too. -/
module

public import proofs.«01_k».proof.Kernel
public import proofs.«01_k».proof.Proof.Gen.Kernel
public import proofs.«01_k».proof.Proof.EgoIdeal
public import proofs.«01_k».proof.Proof.IdealFrame

@[expose] public section

noncomputable section

namespace Cert.Kernel.Hand

open Idealize.ShloMosaic Idealize.ShloMosaic.TcCoe Idealize.SL.Sem

variable {F : FTy → Type} [FloatOps F]

set_option maxRecDepth 16384
set_option maxHeartbeats 4000000

/-- The two bodies of the launch are one. -/
theorem bodies_eq : @Cert.Kernel.defs₀ F _ Cert.Kernel.Gen.facts = @Cert.KernelIdeal.defs₀ F _ Cert.KernelIdeal.Gen.facts := by
  refine congrArg (Defs.onTc (nD := 1) (τ := Cert.Kernel.τ) (sig := Cert.Kernel.sig) (Val := Elt F) (Λ := Cert.Kernel.Λ₀))
    (funext fun l => funext fun x => ?_)
  match l, x with
  | 0, (_, _) => rfl
  | ⟨_ + 1, h⟩, _ => exact absurd h (Nat.not_lt.2 (Nat.le_add_left _ _))

/-- The two pipelines around it are one. -/
theorem pipelines_eq : @Cert.Kernel.defs F _ Cert.Kernel.Gen.facts = @Cert.KernelIdeal.defs F _ Cert.KernelIdeal.Gen.facts :=
  congrArg (Pipeline.defs (@Cert.Kernel.pcfgs F _ Cert.Kernel.Gen.facts)) bodies_eq

/-- The two host programs are one. -/
theorem hosts_eq : @Cert.Kernel.main F _ Cert.Kernel.Gen.facts = @Cert.KernelIdeal.main F _ Cert.KernelIdeal.Gen.facts := rfl

variable (m : (ℓ : Loc Cert.Kernel.nD Cert.Kernel.τ Cert.Kernel.sig) → Buf (Elt F) ℓ) (ρ : Dev Cert.Kernel.nD → PrngReg)

/-- What holds of every run of the idealization holds of every run of the kernel. -/
theorem run_of_ideal (Q : _ → Prop)
    (h : θ_run (@Cert.KernelIdeal.defs F _ Cert.KernelIdeal.Gen.facts)
      (onTc (τ := Cert.KernelIdeal.τ) (@Cert.KernelIdeal.main F _ Cert.KernelIdeal.Gen.facts)) ⟨m, fun _ => 0, ρ⟩ Q) :
    θ_run (@Cert.Kernel.defs F _ Cert.Kernel.Gen.facts)
      (onTc (τ := Cert.Kernel.τ) (@Cert.Kernel.main F _ Cert.Kernel.Gen.facts)) ⟨m, fun _ => 0, ρ⟩ Q := by
  rw [pipelines_eq, hosts_eq]
  exact h

/-- The frame: where the ego index is from −5 up to 4, the arguments end unchanged and every counter ends at zero. -/
theorem frame (h1 : -5 ≤ (Cert.KernelIdeal.Hand.egoArg m).toInt) (h2 : (Cert.KernelIdeal.Hand.egoArg m).toInt < 5) :
    θ_run (@Cert.Kernel.defs F _ Cert.Kernel.Gen.facts)
      (onTc (τ := Cert.Kernel.τ) (@Cert.Kernel.main F _ Cert.Kernel.Gen.facts)) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) :=
  run_of_ideal m ρ _ (Cert.KernelIdeal.Hand.frame m ρ (Cert.KernelIdeal.Hand.ok_of_ego m h1 h2))

end Cert.Kernel.Hand

end
-- ==== Proof.Preconditions.lean ====
/- What the two preconditions say, read at one word: the ego index lies from −5 up to 4, and no sampled position is negative. -/
module

public import proofs.«01_k».proof.Proof.Gen.Pre_ego_names_a_cav
public import proofs.«01_k».proof.Proof.Gen.Pre_indices_count_from_front

@[expose] public section

namespace Cert.Preconditions

open Idealize.ShloMosaic

variable {F : FTy → Type} [FloatOps F]

/-- Two comparisons of a word, joined, as the bounds they test. -/
private theorem bounds (e : BitVec 32)
    (h : IntOp.andi (IntOp.cmpi .sge e 4294967291#32) (IntOp.cmpi .slt e 5#32) = 1#1) : -5 ≤ e.toInt ∧ e.toInt < 5 := by
  obtain ⟨h1, h2⟩ := IntOp.andi_eq_one.mp h
  exact ⟨IntOp.cmpi_sge.mp h1, IntOp.cmpi_slt.mp h2⟩

/-- The first precondition bounds the ego index. -/
theorem ego_bounds (a0 : FVec F Pre_ego_names_a_cav.S1x5x128x65536 .f32) (a1 : FVec F Pre_ego_names_a_cav.S5x128x256x256 .f32)
    (a2 : IVec Pre_ego_names_a_cav.S32768 32) (a3 : IVec Pre_ego_names_a_cav.S_ 32)
    (h : Pre_ego_names_a_cav.fn a0 a1 a2 a3 = fun _ => 1#1) (y : Pre_ego_names_a_cav.S_.Idx) :
    -5 ≤ (a3 y).toInt ∧ (a3 y).toInt < 5 :=
  bounds (a3 y) (congrFun h y)

/-- The second precondition: the same bounds, and every position at least zero. -/
theorem index_bounds (a0 : FVec F Pre_indices_count_from_front.S1x5x128x65536 .f32)
    (a1 : FVec F Pre_indices_count_from_front.S5x128x256x256 .f32) (a2 : IVec Pre_indices_count_from_front.S32768 32)
    (a3 : IVec Pre_indices_count_from_front.S_ 32) (h : Pre_indices_count_from_front.fn a0 a1 a2 a3 = fun _ => 1#1)
    (y : Pre_indices_count_from_front.S_.Idx) :
    (-5 ≤ (a3 y).toInt ∧ (a3 y).toInt < 5) ∧ ∀ k, 0 ≤ (a2 k).toInt := by
  have hk (k : Pre_indices_count_from_front.S32768.Idx) :
      (0 ≤ (a2 k).toInt) ∧ (-5 ≤ (a3 y).toInt ∧ (a3 y).toInt < 5) := by
    have e : ∀ z : Pre_indices_count_from_front.S_.Idx, z = y := fun z => funext fun a => a.elim0
    have := congrFun h k
    obtain ⟨h12, h3⟩ := IntOp.andi_eq_one.mp this
    obtain ⟨h1, h2⟩ := IntOp.andi_eq_one.mp h12
    refine ⟨IntOp.cmpi_sge.mp h1, ?_, ?_⟩
    · rw [← e]; exact IntOp.cmpi_sge.mp h2
    · rw [← e]; exact IntOp.cmpi_slt.mp h3
  exact ⟨(hk (fun a => ⟨0, by fin_cases a; decide⟩)).2, fun k => (hk k).1⟩

end Cert.Preconditions
-- ==== Proof.Blocks.lean ====
/- The blocks that the pipeline hands the body, entry by entry, in terms of the launch's arguments: the list of positions, a
   stretch of sixteen rows of every vehicle's features, and the same rows of the ego vehicle's map. -/
module

public import proofs.«01_k».proof.Proof.IdealFrame
public import proofs.«01_k».proof.Proof.EgoIdeal
public import Idealize.ShloMosaic.Lib.ValueIdx

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx (ix1 ix2 ix3 ix4)

variable {F : FTy → Type} [FloatOps F]
variable (m : (ℓ : Loc nD τ sig) → Buf (Elt F) ℓ) (c : Dev nD)

/-- The list of positions as the region finds it: the argument, as one row. -/
theorem entry_positions (k : Fin 32768) : V m c main_v0 (ix2 0 k) = m (c.tc.loc main_arg2) (ix1 k) := by
  have e : V m c main_v0 = shapeCast S1x32768 (m (c.tc.loc main_arg2)) shapeCasts_S32768_S1x32768 := by
    unfold V
    simp only [hostOps0, hostOps0_1, hostOps0_2, List.flatten_cons, List.flatten_nil, List.append_nil, List.cons_append, List.nil_append]
    after_results_simp_entrywise
    rfl
  rw [e]
  refine shapeCast_apply (s := S32768) _ _ _ _ ?_
  rw [Shape.rowMajor_val_one, Shape.rowMajor_val_two]
  show k.val = 0 * 32768 + k.val
  omega

/-- The features as the region finds them: the argument without its leading axis of extent one. -/
theorem entry_features (a : Fin 5) (ch : Fin 128) (n : Fin 65536) : V m c main_v1 (ix3 a ch n) = m (c.tc.loc main_arg0) (ix4 0 a ch n) := by
  have e : V m c main_v1 = shapeCast S5x128x65536 (m (c.tc.loc main_arg0)) shapeCasts_S1x5x128x65536_S5x128x65536 := by
    unfold V
    simp only [hostOps0, hostOps0_1, hostOps0_2, List.flatten_cons, List.flatten_nil, List.append_nil, List.cons_append, List.nil_append]
    after_results_simp_entrywise
    rfl
  rw [e]
  refine shapeCast_apply (s := S1x5x128x65536) _ _ _ _ ?_
  rw [Shape.rowMajor_val_four, Shape.rowMajor_val_three]
  show ((0 * 5 + a.val) * 128 + ch.val) * 65536 + n.val = (a.val * 128 + ch.val) * 65536 + n.val
  omega

/-- A grid point's coordinate is its number. -/
theorem coords_val : ∀ t : Fin grid0.N, (grid0.coords t 0).val = t.val := by decide +kernel

theorem point_lt (t : Fin grid0.N) : t.val < 16 := lt_of_lt_of_eq t.isLt N_0

theorem word_point (t : Fin grid0.N) : (BitVec.ofNat 32 (grid0.coords t 0).val).toNat = t.val := by
  have := point_lt t
  rw [coords_val, BitVec.toNat_ofNat]
  omega

variable (hO : Ok m)

/-- The first window's block is the whole list, at every point. -/
theorem positions_block (t : Fin (cfgM m hO).N) (k : Fin 32768) : iblk m hO c 0 t (ix2 0 k) = m (c.tc.loc main_arg2) (ix1 k) := by
  refine Eq.trans ?_ (entry_positions m c k)
  show V m c main_v0 _ = V m c main_v0 _
  refine congrArg (V m c main_v0) (funext fun a => Fin.ext ?_)
  match a with
  | ⟨0, _⟩ => rfl
  | ⟨1, _⟩ => show 0 * 32768 + 1 * k.val = k.val; omega

/-- The second window's block: sixteen rows of every vehicle's features. -/
theorem features_block (t : Fin (cfgM m hO).N) (a : Fin 5) (ch : Fin 128) (l : Fin 4096) :
    iblk m hO c 1 t (ix3 a ch l) = m (c.tc.loc main_arg0) (ix4 0 a ch ⟨t.val * 4096 + l.val, by have := point_lt t; omega⟩) := by
  refine Eq.trans ?_ (entry_features m c a ch _)
  show V m c main_v1 _ = V m c main_v1 _
  refine congrArg (V m c main_v1) (funext fun b => Fin.ext ?_)
  match b with
  | ⟨0, _⟩ => show 0 * 5 + 1 * a.val = a.val; omega
  | ⟨1, _⟩ => show 0 * 128 + 1 * ch.val = ch.val; omega
  | ⟨2, _⟩ =>
    show (BitVec.ofNat 32 (grid0.coords t 0).val).toNat * 4096 + 1 * l.val = t.val * 4096 + l.val
    rw [word_point]; omega

/-- The third window's block: the same rows of the ego vehicle's map. -/
theorem ego_block (t : Fin (cfgM m hO).N) (he : (Words.egoWord (egoArg m)).toNat < 5) (ch : Fin 128) (r : Fin 16) (w : Fin 256) :
    iblk m hO c 2 t (ix4 0 ch r w) = m (c.tc.loc main_arg1) (ix4 ⟨(Words.egoWord (egoArg m)).toNat, he⟩ ch ⟨t.val * 16 + r.val, by have := point_lt t; omega⟩ w) := by
  rw [← V_main_arg1 m c]
  show V m c main_arg1 _ = V m c main_arg1 _
  refine congrArg (V m c main_arg1) (funext fun b => Fin.ext ?_)
  have hw : (tbl m).at 0 (Rect.unit (s := S1) ![0] S1.size inb_S1_S1_0) numel1_S1 = Words.egoWord (egoArg m) := table_word m _
  match b with
  | ⟨0, _⟩ =>
    show ((tbl m).at 0 (Rect.unit (s := S1) ![0] S1.size inb_S1_S1_0) numel1_S1 : BitVec 32).toNat * 1 + 1 * 0 = (Words.egoWord (egoArg m)).toNat
    rw [hw]; omega
  | ⟨1, _⟩ => show 0 * 128 + 1 * ch.val = ch.val; omega
  | ⟨2, _⟩ =>
    show (BitVec.ofNat 32 (grid0.coords t 0).val).toNat * 16 + 1 * r.val = t.val * 16 + r.val
    rw [word_point]; omega
  | ⟨3, _⟩ => show 0 * 256 + 1 * w.val = w.val; omega

end Cert.KernelIdeal.Hand
-- ==== Proof.Mask.lean ====
/- The mask over the extended reals. Its entry at row r and column c is the number of listed positions equal to 256 r + c, so it
   passes one half exactly where some listed position is that one. The number itself is never needed: an entry is zero where no
   position is listed, and at least one where some is. -/
module

public import proofs.«01_k».proof.Proof.Pieces
public import proofs.«01_k».proof.Proof.Words
public import Idealize.ShloMosaic.Lib.MatmulPlain
public import Idealize.ShloMosaic.Lib.ValueIdx
public import Idealize.ShloMosaic.Lib.Pipeline.Value
public import Idealize.ShloMosaic.PureOps.Ideal.Laws

@[expose] public section

set_option maxRecDepth 16384

noncomputable section

namespace Cert.KernelIdeal.Hand

open Cert.KernelIdeal Cert.KernelIdeal.Gen Idealize.ShloMosaic Idealize.ShloMosaic.ValueIdx

/-- A sum of zeros and ones seen from afar: at least one where `P` holds, zero elsewhere. -/
def Marks (a : EReal) (P : Prop) : Prop := (P → 1 ≤ a) ∧ (¬P → a = 0)

theorem Marks.nonneg {a : EReal} {P : Prop} (h : Marks a P) : 0 ≤ a := by
  by_cases hP : P
  · exact zero_le_one.trans (h.1 hP)
  · exact (h.2 hP).ge

/-- Sums of two such are such, for the one or the other. -/
theorem Marks.add {a b : EReal} {P Q : Prop} (ha : Marks a P) (hb : Marks b Q) : Marks (a + b) (P ∨ Q) := by
  constructor
  · rintro (h | h)
    · exact le_add_of_le_of_nonneg (ha.1 h) hb.nonneg
    · exact le_add_of_nonneg_of_le ha.nonneg (hb.1 h)
  · intro h
    rw [not_or] at h
    rw [ha.2 h.1, hb.2 h.2, add_zero]

/-- So are sums over finitely many, for some one of them. -/
theorem Marks.sum {n : ℕ} {f : Fin n → EReal} {P : Fin n → Prop} (h : ∀ l, Marks (f l) (P l)) : Marks (∑ l, f l) (∃ l, P l) := by
  constructor
  · rintro ⟨l, hl⟩
    exact ((h l).1 hl).trans (Finset.single_le_sum (fun i _ => (h i).nonneg) (Finset.mem_univ l))
  · intro hn
    exact Finset.sum_eq_zero fun l _ => (h l).2 fun hl => hn ⟨l, hl⟩

/-- A product of two bits read as numbers is one where both are set. -/
theorem Marks.mul {P Q : Prop} [Decidable P] [Decidable Q] :
    Marks ((if P then 1 else 0 : EReal) * (if Q then 1 else 0)) (P ∧ Q) := by
  by_cases hP : P <;> by_cases hQ : Q <;> simp [Marks, hP, hQ]

theorem Marks.congr {a : EReal} {P Q : Prop} (h : Marks a P) (e : P ↔ Q) : Marks a Q := ⟨fun q => h.1 (e.mpr q), fun q => h.2 fun p => q (e.mp p)⟩

/-- It passes one half exactly where `P` holds. -/
theorem Marks.half_lt {a : EReal} {P : Prop} (h : Marks a P) : Ideal.ofBits .f32 0x3F000000#32 < a ↔ P := by
  have e : Ideal.ofBits .f32 0x3F000000#32 = ((1 / 2 : ℝ) : EReal) := by
    simp [Ideal.ofBits, Ideal.ieee]
    rw [← EReal.coe_mul]
    norm_num
  rw [e]
  by_cases hP : P
  · refine iff_of_true (lt_of_lt_of_le ?_ (h.1 hP)) hP
    exact_mod_cast (by norm_num : (1 / 2 : ℝ) < 1)
  · refine iff_of_false ?_ hP
    rw [h.2 hP]
    exact not_lt.mpr (by exact_mod_cast (by norm_num : (0 : ℝ) ≤ 1 / 2))

/-- The comparison's bit, over the extended reals. -/
theorem greater_iff (a b : Ideal .f32) : FloatOps.cmpf .ogt a b = 1#1 ↔ (b : EReal) < a := by
  show BitVec.ofBool (decide ((b : EReal) < a)) = 1#1 ↔ _
  rw [WordCmp.ofBool_decide_eq_one_iff]

/-- A one-hot's entry: one where the word there is the row's number. -/
theorem oneHot_apply (w : IVec S1x4096 32) (r : Fin 256) (l : Fin 4096) :
    oneHot (F := Ideal) w (ix2 r l) = if w (ix2 0 l) = BitVec.ofNat 32 r.val then 1 else 0 := by
  have hb : broadcastTo S256x4096 w broadcasts_S1x4096_S256x4096 (ix2 r l) = w (ix2 0 l) :=
    broadcastTo_apply _ _ _ _ (fun a => by fin_cases a <;> rfl)
  have hi : iota .tc S256x4096 32 [0] iota_S256x4096_d0_w32 (ix2 r l) = BitVec.ofNat 32 r.val := by
    show BitVec.ofNat 32 (0 * 256 + r.val) = _
    rw [Nat.zero_mul, Nat.zero_add]
  show ((((IntOp.cmpi .eq (broadcastTo S256x4096 w broadcasts_S1x4096_S256x4096 (ix2 r l))
    (iota .tc S256x4096 32 [0] iota_S256x4096_d0_w32 (ix2 r l))).setWidth 32).toInt : ℝ) : EReal) = _
  rw [hb, hi]
  by_cases h : w (ix2 0 l) = BitVec.ofNat 32 r.val
  · rw [if_pos h, IntOp.cmpi_eq.mpr h]
    simp
  · rw [if_neg h]
    have : IntOp.cmpi .eq (w (ix2 0 l)) (BitVec.ofNat 32 r.val) = 0#1 := by
      show BitVec.ofBool (_ == _) = _
      rw [beq_eq_false_iff_ne.mpr h]; rfl
    rw [this]
    simp

/-- A word that is no negative number splits into its row and column. -/
theorem words_iff {w : BitVec 32} (hw : w.toNat < 2 ^ 31) (r c : Fin 256) :
    (Words.rowOf w = BitVec.ofNat 32 r.val ∧ Words.colOf w = BitVec.ofNat 32 c.val) ↔ w.toNat = 256 * r.val + c.val := by
  rw [Words.rowOf_eq hw, Words.colOf_eq hw]
  have hr := r.isLt
  have hc := c.isLt
  rw [← BitVec.toNat_inj, ← BitVec.toNat_inj]
  simp only [BitVec.toNat_ofNat]
  omega

/-- One stretch's part: it marks where a position of the stretch is the entry's. -/
theorem addStretch_marks (acc : FVec Ideal S256x256 .f32) (ix : IVec S1x4096 32) (h0 : ∀ y, (ix y).toNat < 2 ^ 31) (r c : Fin 256)
    {P : Prop} (h : Marks (acc (ix2 r c)) P) :
    Marks (addStretch acc ix (ix2 r c)) (P ∨ ∃ l : Fin 4096, (ix (ix2 0 l)).toNat = 256 * r.val + c.val) := by
  have e : addStretch acc ix (ix2 r c) = acc (ix2 r c) +
      ∑ l : Fin 4096, oneHot (F := Ideal) (rowWord ix) (ix2 r l) * oneHot (F := Ideal) (colWord ix) (ix2 c l) := by
    show acc (ix2 r c) + FloatOps.matmul (DotDims.transposedRhs 256 4096 256) none (oneHot (F := Ideal) (rowWord ix)) (oneHot (F := Ideal) (colWord ix))
      (constant S256x256 .f32 0x00000000#32) (ix2 r c) = _
    rw [Ideal.matmul_transposedRhs_apply]
    show _ + (Ideal.ofBits .f32 0x00000000#32 + _) = _
    rw [Ideal.ofBits_zero_f32, zero_add]
  rw [e]
  refine h.add (Marks.sum fun l => ?_)
  rw [oneHot_apply, oneHot_apply]
  exact Marks.mul.congr (words_iff (h0 (ix2 0 l)) r c)

variable (x0 : Vec Ideal S1x32768 .i32) (h0 : ∀ y, (x0 y : BitVec 32).toNat < 2 ^ 31) (r c : Fin 256)

/-- Some one of the first `n` listed positions is row `r`, column `c`. -/
def listedBelow (n : ℕ) : Prop := ∃ k : Fin 32768, k.val < n ∧ (x0 (ix2 0 k) : BitVec 32).toNat = 256 * r.val + c.val

include h0 in
/-- One stretch more. -/
theorem stretch_marks (acc : FVec Ideal S256x256 .f32) (n n' : ℕ) (hn' : n' = n + 4096)
    (hn : ∀ a, (![0, n] : Fin 2 → ℕ) a + S1x4096.size a ≤ S1x32768.size a)
    (h : Marks (acc (ix2 r c)) (listedBelow x0 r c n)) :
    Marks (addStretch acc (shapeCast S1x4096 (stretch x0 ![0, n] hn) shapeCasts_S1x4096_S1x4096) (ix2 r c)) (listedBelow x0 r c n') := by
  rw [shapeCast_self]
  have hb : n + 4096 ≤ 32768 := hn 1
  have hread (l : Fin 4096) : x0 ((Rect.unit (s := S1x32768) ![0, n] S1x4096.size hn).idx (ix2 0 l)) = x0 (ix2 0 ⟨n + l.val, by omega⟩) :=
    congrArg x0 (funext fun a => Fin.ext (by
      match a with
      | ⟨0, _⟩ => rfl
      | ⟨1, _⟩ => show n + 1 * l.val = n + l.val; rw [Nat.one_mul]))
  refine (addStretch_marks acc _ (fun y => h0 _) r c h).congr ⟨?_, ?_⟩
  · rintro (⟨k, hk, e⟩ | ⟨l, e⟩)
    · exact ⟨k, by omega, e⟩
    · rw [hread] at e
      exact ⟨⟨n + l.val, by omega⟩, by subst hn'; simp, e⟩
  · rintro ⟨k, hk, e⟩
    by_cases hkn : k.val < n
    · exact Or.inl ⟨k, hkn, e⟩
    · refine Or.inr ⟨⟨k.val - n, by omega⟩, ?_⟩
      rw [hread]
      have : (⟨n + (k.val - n), by omega⟩ : Fin 32768) = k := Fin.ext (by simp; omega)
      rw [this]; exact e

include h0 in
/-- The mask marks the listed positions. -/
theorem maskBlock_marks : Marks (maskBlock (F := Ideal) x0 (ix2 r c)) (∃ k : Fin 32768, (x0 (ix2 0 k) : BitVec 32).toNat = 256 * r.val + c.val) := by
  have hz : Marks ((broadcast S256x256 (Scalar.ofBits (F := Ideal) .f32 0x00000000#32) : FVec Ideal S256x256 .f32) (ix2 r c)) (listedBelow x0 r c 0) := by
    show Marks (Ideal.ofBits .f32 0x00000000#32) _
    rw [Ideal.ofBits_zero_f32]
    exact ⟨fun ⟨k, hk, _⟩ => absurd hk (Nat.not_lt_zero _), fun _ => rfl⟩
  unfold maskBlock
  rw [shapeCast_self]
  unfold maskSum
  refine Marks.congr ?_ (P := listedBelow x0 r c 32768) ⟨fun ⟨k, _, e⟩ => ⟨k, e⟩, fun ⟨k, e⟩ => ⟨k, k.isLt, e⟩⟩
  refine stretch_marks x0 h0 r c _ 28672 _ (by norm_num) _ ?_
  refine stretch_marks x0 h0 r c _ 24576 _ (by norm_num) _ ?_
  refine stretch_marks x0 h0 r c _ 20480 _ (by norm_num) _ ?_
  refine stretch_marks x0 h0 r c _ 16384 _ (by norm_num) _ ?_
  refine stretch_marks x0 h0 r c _ 12288 _ (by norm_num) _ ?_
  refine stretch_marks x0 h0 r c _ 8192 _ (by norm_num) _ ?_
  refine stretch_marks x0 h0 r c _ 4096 _ (by norm_num) _ ?_
  exact stretch_marks x0 h0 r c _ 0 _ (by norm_num) _ hz

include h0 in
/-- The comparison with one half is set exactly at the listed positions. -/
theorem mask_set_iff : FloatOps.cmpf .ogt (maskBlock (F := Ideal) x0 (ix2 r c)) (Ideal.ofBits .f32 0x3F000000#32 : Ideal .f32) = 1#1
    ↔ ∃ k : Fin 32768, (x0 (ix2 0 k) : BitVec 32).toNat = 256 * r.val + c.val := by
  rw [greater_iff]
  exact (maskBlock_marks x0 h0 r c).half_lt

end Cert.KernelIdeal.Hand
-- ==== Proof.Fused.lean ====
/- What both programs compute. At row r and column c the map holds each vehicle's feature at position 256 r + c where the list
   names that position, and the ego vehicle's map elsewhere. -/
module

public import Idealize.ShloMosaic.Lib.ValueIdx

@[expose] public section

namespace Cert

open Idealize.ShloMosaic Idealize.ShloMosaic.ValueIdx

/-- The list names row `r`, column `c`. -/
def Listed (positions : (⟨1, ![32768]⟩ : Shape).Idx → BitVec 32) (r c : Fin 256) : Prop :=
  ∃ k : Fin 32768, (positions (ix1 k)).toNat = 256 * r.val + c.val

open Classical in
/-- The fused map: features at the listed positions, the ego vehicle's map elsewhere. -/
noncomputable def fused {α : Type} (features : (⟨4, ![1, 5, 128, 65536]⟩ : Shape).Idx → α) (maps : (⟨4, ![5, 128, 256, 256]⟩ : Shape).Idx → α)
    (positions : (⟨1, ![32768]⟩ : Shape).Idx → BitVec 32) (ego : Fin 5) : (⟨4, ![5, 128, 256, 256]⟩ : Shape).Idx → α := fun i =>
  if Listed positions (i 2) (i 3) then
    features (ix4 0 (i 0) (i 1) ⟨256 * (i 2).val + (i 3).val, by
      have h2 : (i 2).val < 256 := (i 2).isLt
      have h3 : (i 3).val < 256 := (i 3).isLt
      omega⟩)
  else maps (ix4 ego (i 1) (i 2) (i 3))

end Cert
-- ==== Proof.KernelValue.lean ====
/- The idealized kernel's result array is the fused map: each grid point writes its sixteen rows of it, and the sixteen points'
   rows are all of it. -/
module

public import proofs.«01_k».proof.Proof.Blocks
public import proofs.«01_k».proof.Proof.Mask
public import proofs.«01_k».proof.Proof.Fused
public import Idealize.ShloMosaic.Lib.Pipeline.Value

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx (ix1 ix2 ix3 ix4 eq_ix4)

/-- An entry of a stored block: a choice by the comparison with one half, between a feature and the ego vehicle's map. -/
theorem outBlock_apply (i : grid0.Coords) (xs : Vec Ideal S256x256 .f32) (x1 : Vec Ideal S5x128x4096 .f32) (x2 : Vec Ideal S1x128x16x256 .f32)
    (a : Fin 5) (ch : Fin 128) (r : Fin 16) (w : Fin 256) :
    outBlock i xs x1 x2 (ix4 a ch r w)
      = Scalar.select (FloatOps.cmpf .ogt (maskRows i xs (ix2 r w)) (Ideal.ofBits .f32 0x3F000000#32 : Ideal .f32))
          (x1 (ix3 a ch ⟨r.val * 256 + w.val, by omega⟩)) (x2 (ix4 0 ch r w)) := by
  unfold outBlock k0_pay2
  rw [WordCmp.select_at]
  congr 1
  · refine (broadcastTo_apply _ _ _ (ix4 0 0 r w) (fun b => by fin_cases b <;> rfl)).trans ?_
    rw [shapeCast_self]
    refine (shapeCast_apply _ _ _ (ix2 r w) ?_).trans rfl
    rw [Shape.rowMajor_val_two, Shape.rowMajor_val_four]
    show r.val * 256 + w.val = ((0 * 1 + 0) * 16 + r.val) * 256 + w.val
    omega
  · rw [shapeCast_self]
    refine shapeCast_apply _ _ _ _ ?_
    rw [Shape.rowMajor_val_three, Shape.rowMajor_val_four]
    show (a.val * 128 + ch.val) * 4096 + (r.val * 256 + w.val) = ((a.val * 128 + ch.val) * 16 + r.val) * 256 + w.val
    omega
  · rw [shapeCast_self]
    exact broadcastTo_apply _ _ _ _ (fun b => by fin_cases b <;> rfl)

/-- The row of the mask that a point's row reads. -/
theorem maskRows_apply (t : Fin grid0.N) (xs : Vec Ideal S256x256 .f32) (r : Fin 16) (w : Fin 256) :
    maskRows (grid0.coords t) xs (ix2 r w) = xs (ix2 ⟨t.val * 16 + r.val, by have := point_lt t; omega⟩ w) := by
  have ht := point_lt t
  unfold maskRows
  refine congrArg xs (funext fun b => Fin.ext ?_)
  match b with
  | ⟨0, _⟩ =>
    show (BitVec.ofNat 32 (grid0.coords t 0).val * 16#32).toNat + 1 * r.val = t.val * 16 + r.val
    rw [BitVec.toNat_mul, word_point, show (16#32 : BitVec 32).toNat = 16 from rfl, Nat.mod_eq_of_lt (by omega), Nat.one_mul]
  | ⟨1, _⟩ => show 0 + 1 * w.val = w.val; omega

/-- An entry of the block that point `t` stores is the fused map's entry, where its three blocks are the list of positions, the
    point's rows of the features and the same rows of the ego vehicle's map. -/
theorem stored_of (t : Fin grid0.N) (x0 : Vec Ideal S1x32768 .i32) (x1 : Vec Ideal S5x128x4096 .f32) (x2 : Vec Ideal S1x128x16x256 .f32)
    (features : S1x5x128x65536.Idx → EReal) (maps : S5x128x256x256.Idx → EReal) (positions : S32768.Idx → BitVec 32) (e : Fin 5)
    (hpos : ∀ k, (positions k).toNat < 2 ^ 31) (h0 : ∀ k, x0 (ix2 0 k) = positions (ix1 k))
    (h1 : ∀ a ch (l : Fin 4096), x1 (ix3 a ch l) = features (ix4 0 a ch ⟨t.val * 4096 + l.val, by have := point_lt t; omega⟩))
    (h2 : ∀ ch (r : Fin 16) w, x2 (ix4 0 ch r w) = maps (ix4 e ch ⟨t.val * 16 + r.val, by have := point_lt t; omega⟩ w))
    (a : Fin 5) (ch : Fin 128) (r : Fin 16) (w : Fin 256) :
    outBlock (grid0.coords t) (maskBlock x0) x1 x2 (ix4 a ch r w)
      = fused features maps positions e (ix4 a ch ⟨t.val * 16 + r.val, by have := point_lt t; omega⟩ w) := by
  have ht := point_lt t
  rw [outBlock_apply, maskRows_apply, h1, h2]
  have hm := mask_set_iff x0
    (fun y => by rw [ValueIdx.eq_ix2 y, show y 0 = (0 : Fin 1) from Subsingleton.elim (α := Fin 1) _ _]; exact (h0 (y 1)).symm ▸ hpos _)
    ⟨t.val * 16 + r.val, by omega⟩ w
  have hl : (∃ k : Fin 32768, (x0 (ix2 0 k) : BitVec 32).toNat = 256 * (t.val * 16 + r.val) + w.val)
      ↔ Listed positions ⟨t.val * 16 + r.val, by omega⟩ w :=
    exists_congr fun k => by rw [h0]
  have hiff := hm.trans hl
  unfold fused
  by_cases h : Listed positions ⟨t.val * 16 + r.val, by omega⟩ w
  · refine (WordCmp.select_of_eq_one (hiff.mpr h) _ _).trans (Eq.trans ?_ (if_pos h).symm)
    refine congrArg features (funext fun b => Fin.ext ?_)
    match b with
    | ⟨0, _⟩ => rfl
    | ⟨1, _⟩ => rfl
    | ⟨2, _⟩ => rfl
    | ⟨3, _⟩ =>
      show t.val * 4096 + (r.val * 256 + w.val) = 256 * (t.val * 16 + r.val) + w.val
      omega
  · refine (WordCmp.select_of_eq_zero ?_ _ _).trans (if_neg h).symm
    exact (BitVec.eq_zero_or_eq_one _).resolve_right fun e => h (hiff.mp e)

variable (m : (ℓ : Loc nD τ sig) → Buf (Elt Ideal) ℓ) (ρ : Dev nD → PrngReg) (hO : Ok m) (c : Dev nD)

/-- The fused map of the launch's arguments. -/
def result (he : (Words.egoWord (egoArg m)).toNat < 5) : Buf (Elt Ideal) ((c.tc : Thread nD τ).loc main_v6) :=
  fused (m (c.tc.loc main_arg0)) (m (c.tc.loc main_arg1)) (m (c.tc.loc main_arg2)) ⟨(Words.egoWord (egoArg m)).toNat, he⟩

variable (he : (Words.egoWord (egoArg m)).toNat < 5) (hpos : ∀ k, (m (c.tc.loc main_arg2) k : BitVec 32).toNat < 2 ^ 31)

include hpos in
/-- An entry of what point `t` leaves in the output's buffer. -/
theorem stored_apply (t : Fin (cfgM m hO).N) (a : Fin 5) (ch : Fin 128) (r : Fin 16) (w : Fin 256) :
    (dats m hO 0 c).after 3 t (ix4 a ch r w)
      = result m c he (ix4 a ch ⟨t.val * 16 + r.val, by have := point_lt t; omega⟩ w) :=
  (congrFun (after3 m hO c t) _).trans
    (stored_of t _ _ _ (m (c.tc.loc main_arg0)) (m (c.tc.loc main_arg1)) (m (c.tc.loc main_arg2)) ⟨_, he⟩ hpos
      (positions_block m c hO (first m hO)) (features_block m c hO t) (ego_block m c hO t he) a ch r w)

include hpos in
/-- What point `t` writes back is its block of the fused map. -/
theorem written (t : Fin (cfgM m hO).N) :
    (dats m hO 0 c).flushed 3 t = (((cfgM m hO).win 3).blk t).view.read (Elt Ideal) (result m c he) := by
  have ht := point_lt t
  refine funext fun (y : S5x128x16x256.Idx) => ?_
  show (dats m hO 0 c).after 3 t (((cfgM m hO).win 3).xinj (grid0.coords t) y) = result m c he ((((cfgM m hO).win 3).blk t).view.emb y)
  refine Eq.trans (congrArg ((dats m hO 0 c).after 3 t) (eq_ix4 (n0 := 5) (n1 := 128) (n2 := 16) (n3 := 256) y))
    ((stored_apply m hO c he hpos t (y 0) (y 1) (y 2) (y 3)).trans ?_)
  refine congrArg (result m c he) (funext fun b => Fin.ext ?_)
  match b with
  | ⟨0, _⟩ => show (y 0).val = 0 * 5 + 1 * (y 0).val; omega
  | ⟨1, _⟩ => show (y 1).val = 0 * 128 + 1 * (y 1).val; omega
  | ⟨2, _⟩ =>
    show t.val * 16 + (y 2).val = (BitVec.ofNat 32 (grid0.coords t 0).val).toNat * 16 + 1 * (y 2).val
    rw [word_point]; omega
  | ⟨3, _⟩ => show (y 3).val = 0 * 256 + 1 * (y 3).val; omega

/-- Every entry of the result lies in some point's block: the point that holds its row. -/
theorem covered (i : S5x128x256x256.Idx) :
    ∃ t : Fin (cfgM m hO).N, ((cfgM m hO).win 3).flush t = true ∧ i ∈ (((cfgM m hO).win 3).blk t).view.set := by
  have h0 : (i 0).val < 5 := (i 0).isLt
  have h1 : (i 1).val < 128 := (i 1).isLt
  have h2 : (i 2).val < 256 := (i 2).isLt
  have h3 : (i 3).val < 256 := (i 3).isLt
  have hN : (i 2).val / 16 < grid0.N := lt_of_lt_of_eq (by omega) N_0.symm
  refine ⟨⟨(i 2).val / 16, hN⟩, flush0_3 _ _, ?_⟩
  refine (Finset.ext_iff.mp (View.set_slice_whole main_v6 _) i).mpr (Rect.mem_set_unit.mpr ?_)
  have hw : (BitVec.ofNat 32 (grid0.coords ⟨(i 2).val / 16, hN⟩ 0).val).toNat = (i 2).val / 16 := word_point ⟨(i 2).val / 16, hN⟩
  intro b
  match b with
  | ⟨0, _⟩ => show 0 * 5 ≤ (i 0).val ∧ (i 0).val < 0 * 5 + 5; omega
  | ⟨1, _⟩ => show 0 * 128 ≤ (i 1).val ∧ (i 1).val < 0 * 128 + 128; omega
  | ⟨2, _⟩ =>
    show (BitVec.ofNat 32 (grid0.coords ⟨(i 2).val / 16, hN⟩ 0).val).toNat * 16 ≤ (i 2).val
      ∧ (i 2).val < (BitVec.ofNat 32 (grid0.coords ⟨(i 2).val / 16, hN⟩ 0).val).toNat * 16 + 16
    rw [hw]; omega
  | ⟨3, _⟩ => show 0 * 256 ≤ (i 3).val ∧ (i 3).val < 0 * 256 + 256; omega

include hpos in
/-- So the array ends as the fused map. -/
theorem array_eq : (dats m hO 0 c).arrAt 3 (cfgM m hO).N = result m c he :=
  (dats m hO 0 c).arrAt_eq_of_cover 3 _ (fun t _ => written m hO c he hpos t) (covered m hO)

include hpos in
/-- One device's part of the run's post: its result, and its arguments unchanged. -/
theorem post_result (r : PUnit × MemSt nD τ sig (Elt Ideal))
    (h : Pipeline.FramePost (Pipeline.pin pcfgs fun _ => adm m hO) (dats m hO) 0 (V m) r) :
    r.2.mem (c.tc.loc main_v6) = result m c he :=
  ((h c).1 3).trans (array_eq m hO c he hpos)

include hO in
/-- The run's results: the fused map, and the arguments unchanged. -/
theorem run_result (hpos : ∀ (c : Dev nD) k, (m (c.tc.loc main_arg2) k : BitVec 32).toNat < 2 ^ 31) :
    θ_run defs (onTc (τ := τ) (main (F := Ideal))) ⟨m, fun _ => 0, ρ⟩ (fun r => ∀ c : Dev nD,
      r.2.mem (c.tc.loc main_v6) = result m c he
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c => ⟨post_result m hO c he (hpos c) r h.1 , h.2 c⟩)
    (θ_run_and (run_main m ρ hO) (unchanged m ρ hO))

end Cert.KernelIdeal.Hand
-- ==== Proof.RefRun.lean ====
/- The reference's run: its operations in order, the array they leave as its result, named piece by piece, and the arguments
   unchanged. -/
module

public import proofs.«01_k».proof.Proof.Gen.ReferenceIdeal
public import Idealize.ShloMosaic.Lib.StableHlo.Run
public import Idealize.ShloMosaic.Lib.StableHlo.RunClose
public import Idealize.ShloMosaic.Lib.Quiescent

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 53 operations, in order. -/
abbrev ops : List (HloOp τ sig (Elt F)) :=
  [ nullary main_c (constantI S_ 32 0#32),
    unary main_c main_v0 (broadcastInDim S32768 ![] bcast_S_S32768 : (⟨S_, .i32⟩ : BufTy).Contents (Elt F) → (⟨S32768, .i32⟩ : BufTy).Contents (Elt F)),
    binary main_arg2 main_v0 main_v1 (cmpi .slt : (⟨S32768, .i32⟩ : BufTy).Contents (Elt F) → (⟨S32768, .i32⟩ : BufTy).Contents (Elt F) → (⟨S32768, .i1⟩ : BufTy).Contents (Elt F)),
    nullary main_c_0 (constantI S_ 32 65536#32),
    unary main_c_0 main_v2 (broadcastInDim S32768 ![] bcast_S_S32768 : (⟨S_, .i32⟩ : BufTy).Contents (Elt F) → (⟨S32768, .i32⟩ : BufTy).Contents (Elt F)),
    binary main_arg2 main_v2 main_v3 (addi : (⟨S32768, .i32⟩ : BufTy).Contents (Elt F) → (⟨S32768, .i32⟩ : BufTy).Contents (Elt F) → (⟨S32768, .i32⟩ : BufTy).Contents (Elt F)),
    ternary main_v1 main_v3 main_arg2 main_v4 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v4 main_v5 (broadcastInDim S32768x1 ![0] bcast_S32768_S32768x1_0 : (⟨S32768, .i32⟩ : BufTy).Contents (Elt F) → (⟨S32768x1, .i32⟩ : BufTy).Contents (Elt F)),
    binary main_arg0 main_v5 main_v6 ((fun x i => Host.gather gather_S1x5x128x65536_S32768x1_S1x5x128x32768_012_3_n_n_3_1_151281 x i) : (⟨S1x5x128x65536, .f32⟩ : BufTy).Contents (Elt F) → (⟨S32768x1, .i32⟩ : BufTy).Contents (Elt F) → (⟨S1x5x128x32768, .f32⟩ : BufTy).Contents (Elt F)),
    nullary main_c_1 (constantI S_ 32 0#32),
    binary main_arg3 main_c_1 main_v7 (cmpi .slt : (⟨S_, .i32⟩ : BufTy).Contents (Elt F) → (⟨S_, .i32⟩ : BufTy).Contents (Elt F) → (⟨S_, .i1⟩ : BufTy).Contents (Elt F)),
    nullary main_c_2 (constantI S_ 32 5#32),
    binary main_arg3 main_c_2 main_v8 (addi : (⟨S_, .i32⟩ : BufTy).Contents (Elt F) → (⟨S_, .i32⟩ : BufTy).Contents (Elt F) → (⟨S_, .i32⟩ : BufTy).Contents (Elt F)),
    ternary main_v7 main_v8 main_arg3 main_v9 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_3 (constantI S_ 32 0#32),
    nullary main_c_4 (constantI S_ 32 0#32),
    binary main_c_3 main_c_4 main_v10 (cmpi .slt : (⟨S_, .i32⟩ : BufTy).Contents (Elt F) → (⟨S_, .i32⟩ : BufTy).Contents (Elt F) → (⟨S_, .i1⟩ : BufTy).Contents (Elt F)),
    nullary main_c_5 (constantI S_ 32 0#32),
    nullary main_c_6 (constantI S_ 32 128#32),
    binary main_c_5 main_c_6 main_v11 (addi : (⟨S_, .i32⟩ : BufTy).Contents (Elt F) → (⟨S_, .i32⟩ : BufTy).Contents (Elt F) → (⟨S_, .i32⟩ : BufTy).Contents (Elt F)),
    nullary main_c_7 (constantI S_ 32 0#32),
    ternary main_v10 main_v11 main_c_7 main_v12 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_8 (constantI S_ 32 0#32),
    nullary main_c_9 (constantI S_ 32 0#32),
    binary main_c_8 main_c_9 main_v13 (cmpi .slt : (⟨S_, .i32⟩ : BufTy).Contents (Elt F) → (⟨S_, .i32⟩ : BufTy).Contents (Elt F) → (⟨S_, .i1⟩ : BufTy).Contents (Elt F)),
    nullary main_c_10 (constantI S_ 32 0#32),
    nullary main_c_11 (constantI S_ 32 256#32),
    binary main_c_10 main_c_11 main_v14 (addi : (⟨S_, .i32⟩ : BufTy).Contents (Elt F) → (⟨S_, .i32⟩ : BufTy).Contents (Elt F) → (⟨S_, .i32⟩ : BufTy).Contents (Elt F)),
    nullary main_c_12 (constantI S_ 32 0#32),
    ternary main_v13 main_v14 main_c_12 main_v15 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_13 (constantI S_ 32 0#32),
    nullary main_c_14 (constantI S_ 32 0#32),
    binary main_c_13 main_c_14 main_v16 (cmpi .slt : (⟨S_, .i32⟩ : BufTy).Contents (Elt F) → (⟨S_, .i32⟩ : BufTy).Contents (Elt F) → (⟨S_, .i1⟩ : BufTy).Contents (Elt F)),
    nullary main_c_15 (constantI S_ 32 0#32),
    nullary main_c_16 (constantI S_ 32 256#32),
    binary main_c_15 main_c_16 main_v17 (addi : (⟨S_, .i32⟩ : BufTy).Contents (Elt F) → (⟨S_, .i32⟩ : BufTy).Contents (Elt F) → (⟨S_, .i32⟩ : BufTy).Contents (Elt F)),
    nullary main_c_17 (constantI S_ 32 0#32),
    ternary main_v16 main_v17 main_c_17 main_v18 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg1 ![main_v9, main_v12, main_v15, main_v18] ⟨S_, .i32⟩ main_v19 ((fun x i => Host.dynamicSlice S1x128x256x256 x (fun k => (i k (Shape.Idx.first h_S_)).toInt) sliceFits_S5x128x256x256_S1x128x256x256) : (⟨S5x128x256x256, .f32⟩ : BufTy).Contents (Elt F) → (Fin 4 → (⟨S_, .i32⟩ : BufTy).Contents (Elt F)) → (⟨S1x128x256x256, .f32⟩ : BufTy).Contents (Elt F)),
    reshape main_v19 main_v20 (rfl : (.f32 : EltTy) = .f32) shapeCasts_S1x128x256x256_S128x256x256,
    reshape main_v20 main_v21 (rfl : (.f32 : EltTy) = .f32) shapeCasts_S128x256x256_S128x65536,
    unary main_v21 main_v22 (broadcastInDim S1x1x128x65536 ![2, 3] bcast_S128x65536_S1x1x128x65536_2_3 : (⟨S128x65536, .f32⟩ : BufTy).Contents (Elt F) → (⟨S1x1x128x65536, .f32⟩ : BufTy).Contents (Elt F)),
    unary main_v22 main_v23 (broadcastInDim S1x5x128x65536 ![0, 1, 2, 3] bcast_S1x1x128x65536_S1x5x128x65536_0_1_2_3 : (⟨S1x1x128x65536, .f32⟩ : BufTy).Contents (Elt F) → (⟨S1x5x128x65536, .f32⟩ : BufTy).Contents (Elt F)),
    nullary main_c_18 (constantI S_ 32 0#32),
    unary main_c_18 main_v24 (broadcastInDim S32768 ![] bcast_S_S32768 : (⟨S_, .i32⟩ : BufTy).Contents (Elt F) → (⟨S32768, .i32⟩ : BufTy).Contents (Elt F)),
    binary main_arg2 main_v24 main_v25 (cmpi .slt : (⟨S32768, .i32⟩ : BufTy).Contents (Elt F) → (⟨S32768, .i32⟩ : BufTy).Contents (Elt F) → (⟨S32768, .i1⟩ : BufTy).Contents (Elt F)),
    nullary main_c_19 (constantI S_ 32 65536#32),
    unary main_c_19 main_v26 (broadcastInDim S32768 ![] bcast_S_S32768 : (⟨S_, .i32⟩ : BufTy).Contents (Elt F) → (⟨S32768, .i32⟩ : BufTy).Contents (Elt F)),
    binary main_arg2 main_v26 main_v27 (addi : (⟨S32768, .i32⟩ : BufTy).Contents (Elt F) → (⟨S32768, .i32⟩ : BufTy).Contents (Elt F) → (⟨S32768, .i32⟩ : BufTy).Contents (Elt F)),
    ternary main_v25 main_v27 main_arg2 main_v28 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v28 main_v29 (broadcastInDim S32768x1 ![0] bcast_S32768_S32768x1_0 : (⟨S32768, .i32⟩ : BufTy).Contents (Elt F) → (⟨S32768x1, .i32⟩ : BufTy).Contents (Elt F)),
    ternary main_v23 main_v29 main_v6 main_v30 ((fun x i u => Host.scatter scatter_S1x5x128x65536_S32768x1_S1x5x128x32768_012_3_3_1 (fun _ b => b) x i u) : (⟨S1x5x128x65536, .f32⟩ : BufTy).Contents (Elt F) → (⟨S32768x1, .i32⟩ : BufTy).Contents (Elt F) → (⟨S1x5x128x32768, .f32⟩ : BufTy).Contents (Elt F) → (⟨S1x5x128x65536, .f32⟩ : BufTy).Contents (Elt F)),
    reshape main_v30 main_v31 (rfl : (.f32 : EltTy) = .f32) shapeCasts_S1x5x128x65536_S5x128x256x256 ]

set_option maxRecDepth 8192 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., reshape_bufs_sub .., unary_bufs_sub .., unary_bufs_sub .., nullary_bufs_sub .., unary_bufs_sub .., binary_bufs_sub .., nullary_bufs_sub .., unary_bufs_sub .., binary_bufs_sub .., ternary_bufs_sub .., unary_bufs_sub .., ternary_bufs_sub .., reshape_bufs_sub ..⟩

/-- The positions as the reference reads them: 65536 is added to a negative one, and each stands on a row of its own. -/
def wrapped (positions : IVec S32768 32) : IVec S32768x1 32 :=
  broadcastInDim S32768x1 ![0] bcast_S32768_S32768x1_0
    (select (cmpi .slt positions (broadcastInDim S32768 ![] bcast_S_S32768 (constantI S_ 32 0#32)))
      (addi positions (broadcastInDim S32768 ![] bcast_S_S32768 (constantI S_ 32 65536#32))) positions)

/-- Where the ego vehicle's map starts in the array of maps, one word for each axis. -/
def starts (ego : IVec S_ 32) : Fin 4 → IVec S_ 32 :=
  ![select (cmpi .slt ego (constantI S_ 32 0#32)) (addi ego (constantI S_ 32 5#32)) ego,
    select (cmpi .slt (constantI S_ 32 0#32) (constantI S_ 32 0#32)) (addi (constantI S_ 32 0#32) (constantI S_ 32 128#32)) (constantI S_ 32 0#32),
    select (cmpi .slt (constantI S_ 32 0#32) (constantI S_ 32 0#32)) (addi (constantI S_ 32 0#32) (constantI S_ 32 256#32)) (constantI S_ 32 0#32),
    select (cmpi .slt (constantI S_ 32 0#32) (constantI S_ 32 0#32)) (addi (constantI S_ 32 0#32) (constantI S_ 32 256#32)) (constantI S_ 32 0#32)]

/-- The ego vehicle's map. -/
def egoMap (maps : FVec F S5x128x256x256 .f32) (ego : IVec S_ 32) : FVec F S1x128x256x256 .f32 :=
  Host.dynamicSlice S1x128x256x256 maps (fun k => (starts ego k (Shape.Idx.first h_S_)).toInt) sliceFits_S5x128x256x256_S1x128x256x256

/-- The ego vehicle's map with its rows joined, once for every vehicle: what the features are written over. -/
def base (maps : FVec F S5x128x256x256 .f32) (ego : IVec S_ 32) : FVec F S1x5x128x65536 .f32 :=
  broadcastInDim S1x5x128x65536 ![0, 1, 2, 3] bcast_S1x1x128x65536_S1x5x128x65536_0_1_2_3
    (broadcastInDim S1x1x128x65536 ![2, 3] bcast_S128x65536_S1x1x128x65536_2_3
      (shapeCast S128x65536 (shapeCast S128x256x256 (egoMap maps ego) shapeCasts_S1x128x256x256_S128x256x256) shapeCasts_S128x256x256_S128x65536))

/-- The features at the listed positions. -/
def taken (features : FVec F S1x5x128x65536 .f32) (positions : IVec S32768 32) : FVec F S1x5x128x32768 .f32 :=
  Host.gather gather_S1x5x128x65536_S32768x1_S1x5x128x32768_012_3_n_n_3_1_151281 features (wrapped positions)

/-- The features written over the ego vehicle's map at the listed positions. -/
def written (features : FVec F S1x5x128x65536 .f32) (maps : FVec F S5x128x256x256 .f32) (positions : IVec S32768 32) (ego : IVec S_ 32) :
    FVec F S1x5x128x65536 .f32 :=
  Host.scatter scatter_S1x5x128x65536_S32768x1_S1x5x128x32768_012_3_3_1 (fun _ b => b) (base maps ego) (wrapped positions) (taken features positions)

/-- The reference's result. -/
def answer (features : FVec F S1x5x128x65536 .f32) (maps : FVec F S5x128x256x256 .f32) (positions : IVec S32768 32) (ego : IVec S_ 32) :
    FVec F S5x128x256x256 .f32 :=
  shapeCast S5x128x256x256 (written features maps positions ego) shapeCasts_S1x5x128x65536_S5x128x256x256

set_option maxRecDepth 8192 in
set_option maxHeartbeats 2000000 in
/-- After the operations the result array holds that. -/
theorem after_result (V : Valuation τ sig (Elt F)) : after ops V (Proc.devRef .tc main_v31)
    = answer (V (Proc.devRef .tc main_arg0)) (V (Proc.devRef .tc main_arg1)) (V (Proc.devRef .tc main_arg2)) (V (Proc.devRef .tc main_arg3)) := by
  after_results_simp_entrywise
  rfl

section Unchanged

variable (V : Valuation τ sig (Elt F))

set_option maxRecDepth 8192

/-- No operation writes an argument. -/
theorem after_arg0 : after ops V (Proc.devRef .tc main_arg0) = V (Proc.devRef .tc main_arg0) := by after_results_simp
theorem after_arg1 : after ops V (Proc.devRef .tc main_arg1) = V (Proc.devRef .tc main_arg1) := by after_results_simp
theorem after_arg2 : after ops V (Proc.devRef .tc main_arg2) = V (Proc.devRef .tc main_arg2) := by after_results_simp
theorem after_arg3 : after ops V (Proc.devRef .tc main_arg3) = V (Proc.devRef .tc main_arg3) := by after_results_simp

end Unchanged

variable (m : (ℓ : Loc nD τ sig) → Buf (Elt F) ℓ) (ρ : Dev nD → PrngReg)

/-- The run: the result is `answer` of the arguments, the arguments are unchanged, and every counter is at zero. -/
theorem run_all : θ_run (defs (F := F)) (onTc (τ := τ) (main (F := F))) ⟨m, fun _ => 0, ρ⟩ fun r =>
    (∀ c : Dev nD,
      r.2.mem ((c.tc : Thread nD τ).loc main_v31) = answer (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run defs _ _).mono
    (fun r h => ⟨fun c => ⟨(h c main_v31).trans (after_result _), (h c main_arg0).trans (after_arg0 _), (h c main_arg1).trans (after_arg1 _),
      (h c main_arg2).trans (after_arg2 _), (h c main_arg3).trans (after_arg3 _)⟩, sem_eq_zero_of_no_sems (by decide) r.2⟩)
    (run_seq scopedRefs_eq scopedSems_eq defs main (fun _ => ops) main_eq (fun _ => ops_sub) m ρ)

end Cert.ReferenceIdeal.Hand
-- ==== Proof.RefIndex.lean ====
/- Where the reference's gather reads and where its scatter writes: along the last axis at the listed position, at the same vehicle
   and channel. -/
module

public import proofs.«01_k».proof.Proof.RefRun
public import Idealize.ShloMosaic.Lib.Routing.OpsSet
public import Idealize.ShloMosaic.Lib.ValueIdx

@[expose] public section

set_option maxRecDepth 16384

noncomputable section

namespace Cert.ReferenceIdeal.Hand

open Cert.ReferenceIdeal Cert.ReferenceIdeal.Gen Idealize.ShloMosaic Idealize.ShloMosaic.ValueIdx

/-- The scatter's record of dimensions, and the gather's. -/
abbrev put := scatter_S1x5x128x65536_S32768x1_S1x5x128x32768_012_3_3_1
abbrev take := gather_S1x5x128x65536_S32768x1_S1x5x128x32768_012_3_n_n_3_1_151281

variable (list : IVec S32768x1 32) (k : S1x5x128x32768.Idx)

/-- The row of the list that entry `k` of the updates belongs to. -/
abbrev entryOf : S32768x1.Idx := ix2 (k 3) 0

theorem put_row (p : Fin put.scatterDimsToOperandDims.length) : put.siIdx k p = entryOf k := by
  obtain rfl : p = ⟨0, Nat.one_pos⟩ := Fin.ext (Nat.lt_one_iff.mp p.isLt)
  funext b
  match b with
  | ⟨0, _⟩ => rfl
  | ⟨1, _⟩ => rfl

theorem take_row (p : Fin take.startIndexMap.length) : take.siIdx k p = entryOf k := by
  obtain rfl : p = ⟨0, Nat.one_pos⟩ := Fin.ext (Nat.lt_one_iff.mp p.isLt)
  funext b
  match b with
  | ⟨0, _⟩ => rfl
  | ⟨1, _⟩ => rfl

/-- Along the last axis an update starts at its position, along the others at zero. -/
theorem put_start_last : put.start k list 3 = (list (entryOf k)).toInt := by
  unfold ScatterDims.start
  rw [dif_pos (show (3 : Fin 4) ∈ put.scatterDimsToOperandDims from List.mem_singleton.mpr rfl), put_row]

theorem put_start_other (a : Fin 4) (ha : a ≠ 3) : put.start k list a = 0 := by
  unfold ScatterDims.start
  exact dif_neg fun h => ha (List.mem_singleton.mp h)

/-- Within its window an update lies at its own vehicle and channel. -/
theorem put_window_0 : put.window k 0 = (k 0).val := rfl
theorem put_window_1 : put.window k 1 = (k 1).val := rfl
theorem put_window_2 : put.window k 2 = (k 2).val := rfl
theorem put_window_3 : put.window k 3 = 0 := rfl

/-- Update `k` lands at `i` where vehicle and channel are the same and the position is `i`'s last coordinate. -/
theorem put_lands (i : S1x5x128x65536.Idx) : put.resultIdx? k list = some i ↔
    (k 1).val = (i 1).val ∧ (k 2).val = (i 2).val ∧ (list (entryOf k)).toInt = ((i 3).val : Int) := by
  rw [Routing.resultIdx?_eq_some]
  have s0 := put_start_other list k 0 (by decide)
  have s1 := put_start_other list k 1 (by decide)
  have s2 := put_start_other list k 2 (by decide)
  have s3 := put_start_last list k
  constructor
  · intro h
    have h1 := h 1
    have h2 := h 2
    have h3 := h 3
    rw [s1, put_window_1] at h1
    rw [s2, put_window_2] at h2
    rw [s3, put_window_3] at h3
    exact ⟨by omega, by omega, by omega⟩
  · rintro ⟨h1, h2, h3⟩ a
    match a with
    | ⟨0, _⟩ =>
      show put.start k list 0 + (put.window k 0 : Int) = ((i 0).val : Int)
      have hk : (k 0).val < 1 := (k 0).isLt
      have hi : (i 0).val < 1 := (i 0).isLt
      rw [s0, put_window_0]
      omega
    | ⟨1, _⟩ =>
      show put.start k list 1 + (put.window k 1 : Int) = ((i 1).val : Int)
      rw [s1, put_window_1]
      omega
    | ⟨2, _⟩ =>
      show put.start k list 2 + (put.window k 2 : Int) = ((i 2).val : Int)
      rw [s2, put_window_2]
      omega
    | ⟨3, _⟩ =>
      show put.start k list 3 + (put.window k 3 : Int) = ((i 3).val : Int)
      rw [s3, put_window_3]
      omega

/-- Where the position is in range, the gather reads there, at the same vehicle and channel. -/
theorem take_reads {α : Type} (x : S1x5x128x65536.Idx → α) (i : S1x5x128x65536.Idx) (h1 : (k 1).val = (i 1).val) (h2 : (k 2).val = (i 2).val)
    (h3 : (list (entryOf k)).toInt = ((i 3).val : Int)) : Host.gather take x list k = x i := by
  unfold Host.gather
  refine congrArg x (funext fun a => Fin.ext ?_)
  have none : ∀ b : Fin 4, take.batchCoord k b = 0 := fun b => take.batchCoord_eq_zero k b List.not_mem_nil
  have zero : ∀ b : Fin 4, b ≠ 3 → take.start k list b = 0 := fun b hb => by
    unfold GatherDims.start
    exact dif_neg fun h => hb (List.mem_singleton.mp h)
  have last : take.start k list 3 = (i 3).val := by
    have hi : (i 3).val < 65536 := (i 3).isLt
    unfold GatherDims.start
    rw [dif_pos (show (3 : Fin 4) ∈ take.startIndexMap from List.mem_singleton.mpr rfl), take_row, h3]
    show min ((i 3).val : Int).toNat 65535 = (i 3).val
    omega
  match a with
  | ⟨0, _⟩ =>
    have hk : (k 0).val < 1 := (k 0).isLt
    have hi : (i 0).val < 1 := (i 0).isLt
    show take.start k list 0 + take.batchCoord k 0 + (k 0).val = (i 0).val
    rw [zero 0 (by decide), none]
    omega
  | ⟨1, _⟩ =>
    show take.start k list 1 + take.batchCoord k 1 + (k 1).val = (i 1).val
    rw [zero 1 (by decide), none]
    omega
  | ⟨2, _⟩ =>
    show take.start k list 2 + take.batchCoord k 2 + (k 2).val = (i 2).val
    rw [zero 2 (by decide), none]
    omega
  | ⟨3, _⟩ =>
    show take.start k list 3 + take.batchCoord k 3 + 0 = (i 3).val
    rw [last, none]
    rfl

end Cert.ReferenceIdeal.Hand
-- ==== Proof.RefValue.lean ====
/- The reference's result is the fused map. -/
module

public import proofs.«01_k».proof.Proof.RefIndex
public import proofs.«01_k».proof.Proof.Fused
public import proofs.«01_k».proof.Proof.Words
public import Idealize.ShloMosaic.Lib.DynamicIndex

@[expose] public section

set_option maxRecDepth 16384

noncomputable section

namespace Cert.ReferenceIdeal.Hand

open Cert.ReferenceIdeal Cert.ReferenceIdeal.Gen Idealize.ShloMosaic Idealize.ShloMosaic.ValueIdx

variable {F : FTy → Type} [FloatOps F]
variable (features : FVec F S1x5x128x65536 .f32) (maps : FVec F S5x128x256x256 .f32) (positions : IVec S32768 32) (ego : IVec S_ 32)

/-- Positions from zero up are taken as they are. -/
theorem wrapped_apply (j : Fin 32768) (h : 0 ≤ (positions (ix1 j)).toInt) : wrapped positions (ix2 j 0) = positions (ix1 j) := by
  unfold wrapped
  refine (broadcastInDim_apply _ _ _ _ (ix1 j) fun a => ?_).trans ?_
  · match a with
    | ⟨0, _⟩ => rfl
  · exact select_slt_zero_of_nonneg (s := S32768) positions _ _ (ix1 j) h

/-- The ego vehicle's map, where the ego index names a vehicle. -/
theorem egoMap_apply (he : (Words.egoWord (ego (fun a => a.elim0))).toNat < 5) (ch : Fin 128) (r c : Fin 256) :
    egoMap maps ego (ix4 0 ch r c) = maps (ix4 ⟨(Words.egoWord (ego (fun a => a.elim0))).toNat, he⟩ ch r c) := by
  unfold egoMap
  rw [Host.dynamicSlice_eq_extractStridedSlice S1x128x256x256 maps _ ![(Words.egoWord (ego (fun a => a.elim0))).toNat, 0, 0, 0] _
    ⟨rfl, fun a => by
      match a with
      | ⟨0, _⟩ => show _ + 1 ≤ 5; simp; omega
      | ⟨1, _⟩ => show 0 + 128 ≤ 128; omega
      | ⟨2, _⟩ => show 0 + 256 ≤ 256; omega
      | ⟨3, _⟩ => show 0 + 256 ≤ 256; omega⟩
    (fun a => by
      match a with
      | ⟨0, _⟩ =>
        have e : (Shape.Idx.first h_S_ : S_.Idx) = fun a => a.elim0 := funext fun a => a.elim0
        rw [e]
        have word : (Words.egoWord (ego (fun a => a.elim0))).toInt = ((Words.egoWord (ego (fun a => a.elim0))).toNat : Int) :=
          WordCmp.toInt_eq_toNat_of_lt_half (by omega)
        exact word
      | ⟨1, _⟩ => rfl
      | ⟨2, _⟩ => rfl
      | ⟨3, _⟩ => rfl)]
  refine extractStridedSlice_apply _ _ _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm

/-- What the features are written over: the ego vehicle's map, at row and column, for every vehicle. -/
theorem base_apply (a : Fin 5) (ch : Fin 128) (r c : Fin 256) (n : Fin 65536) (hn : n.val = 256 * r.val + c.val) :
    base maps ego (ix4 0 a ch n) = egoMap maps ego (ix4 0 ch r c) := by
  unfold base
  refine (broadcastInDim_apply _ _ _ _ (ix4 0 0 ch n) fun b => ?_).trans ?_
  · match b with
    | ⟨0, _⟩ => rfl
    | ⟨1, _⟩ => rfl
    | ⟨2, _⟩ => rfl
    | ⟨3, _⟩ => rfl
  refine (broadcastInDim_apply _ _ _ _ (ix2 ch n) fun b => ?_).trans ?_
  · match b with
    | ⟨0, _⟩ => rfl
    | ⟨1, _⟩ => rfl
  refine (shapeCast_apply (s := S128x256x256) _ _ _ (ix3 ch r c) ?_).trans ?_
  · rw [Shape.rowMajor_val_three, Shape.rowMajor_val_two]
    show (ch.val * 256 + r.val) * 256 + c.val = ch.val * 65536 + n.val
    omega
  refine shapeCast_apply (s := S1x128x256x256) _ _ _ (ix4 0 ch r c) ?_
  rw [Shape.rowMajor_val_four, Shape.rowMajor_val_three]
  show ((0 * 128 + ch.val) * 256 + r.val) * 256 + c.val = (ch.val * 256 + r.val) * 256 + c.val
  omega

/-- Where the list names the place, the feature is written there; elsewhere the ego vehicle's map stays. -/
theorem written_apply (hp : ∀ j, 0 ≤ (positions j).toInt) (a : Fin 5) (ch : Fin 128) (n : Fin 65536) :
    ((∃ j : Fin 32768, (positions (ix1 j)).toNat = n.val) → written features maps positions ego (ix4 0 a ch n) = features (ix4 0 a ch n))
    ∧ ((¬ ∃ j : Fin 32768, (positions (ix1 j)).toNat = n.val) → written features maps positions ego (ix4 0 a ch n) = base maps ego (ix4 0 a ch n)) := by
  have word : ∀ j : Fin 32768, (wrapped positions (ix2 j 0)).toInt = ((positions (ix1 j)).toNat : Int) := fun j => by
    have h := hp (ix1 j)
    rw [wrapped_apply positions j h]
    have := BitVec.toInt_eq_toNat_cond (positions (ix1 j))
    have := (positions (ix1 j)).isLt
    split at * <;> omega
  unfold written
  constructor
  · rintro ⟨j, hj⟩
    refine Routing.scatter_set_hit put _ _ _ _ _ (fun k hk => ?_) (ix4 0 a ch j) ?_
    · obtain ⟨h1, h2, h3⟩ := (put_lands _ k _).mp hk
      exact take_reads _ k features _ h1 h2 h3
    · refine (put_lands _ _ _).mpr ⟨rfl, rfl, ?_⟩
      exact (word j).trans (congrArg _ hj)
  · intro hno
    refine Routing.scatter_set_miss put _ _ _ _ fun k hk => hno ⟨k 3, ?_⟩
    exact Int.ofNat.inj ((word (k 3)).symm.trans ((put_lands _ k _).mp hk).2.2)

/-- The reference's result is the fused map. -/
theorem answer_eq (hp : ∀ j, 0 ≤ (positions j).toInt) (he : (Words.egoWord (ego (fun a => a.elim0))).toNat < 5) :
    answer features maps positions ego = fused features maps positions ⟨(Words.egoWord (ego (fun a => a.elim0))).toNat, he⟩ := by
  funext (i : S5x128x256x256.Idx)
  have h0 : (i 0).val < 5 := (i 0).isLt
  have h1 : (i 1).val < 128 := (i 1).isLt
  have h2 : (i 2).val < 256 := (i 2).isLt
  have h3 : (i 3).val < 256 := (i 3).isLt
  have cast : answer features maps positions ego i
      = written features maps positions ego (ix4 0 (i 0) (i 1) ⟨256 * (i 2).val + (i 3).val, by omega⟩) := by
    refine shapeCast_apply (s := S1x5x128x65536) _ _ _ _ ?_
    rw [Shape.rowMajor_val_four, Shape.rowMajor_val_four]
    show ((0 * 5 + (i 0).val) * 128 + (i 1).val) * 65536 + (256 * (i 2).val + (i 3).val)
      = (((i 0).val * 128 + (i 1).val) * 256 + (i 2).val) * 256 + (i 3).val
    omega
  obtain ⟨hit, miss⟩ := written_apply features maps positions ego hp (i 0) (i 1) ⟨256 * (i 2).val + (i 3).val, by omega⟩
  rw [cast]
  unfold fused
  by_cases h : Listed positions (i 2) (i 3)
  · rw [if_pos h]
    exact hit h
  · rw [if_neg h, miss h, base_apply maps ego (i 0) (i 1) (i 2) (i 3) _ rfl]
    exact egoMap_apply maps ego he (i 1) (i 2) (i 3)

end Cert.ReferenceIdeal.Hand
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame.RunB
public import proofs.«01_k».proof.Proof.Gen.ReferenceIdeal
public import proofs.«01_k».proof.Proof.Gen.Pre_ego_names_a_cav
public import proofs.«01_k».proof.Proof.Gen.Pre_indices_count_from_front
public import Idealize.ShloMosaic.Adequacy
public import Idealize.ShloMosaic.Init
public import proofs.«01_k».proof.Proof.KernelFrame
public import proofs.«01_k».proof.Proof.EgoIdeal
public import proofs.«01_k».proof.Proof.IdealFrame
public import proofs.«01_k».proof.Proof.Preconditions
public import proofs.«01_k».proof.Proof.KernelValue
public import proofs.«01_k».proof.Proof.RefValue

@[expose] public section

noncomputable section

namespace Cert.Proof

open Idealize.ShloMosaic Idealize.SL.Sem

/-- Where the ego index names a vehicle the kernel runs, its arguments end unchanged and every counter ends at zero. -/
theorem kernel_frame : Cert.quiescent_Kernel (hKernel := Cert.Kernel.Gen.facts) (hPre_ego_names_a_cav := Cert.Pre_ego_names_a_cav.Gen.facts) :=
  fun m ρ h =>
    have bound := Cert.Preconditions.ego_bounds _ _ _ _ (h 0) fun a => a.elim0
    Cert.Kernel.Hand.frame m ρ bound.1 bound.2

/-- The same of its idealization, -/
theorem ideal_frame : Cert.quiescent_KernelIdeal (hKernelIdeal := Cert.KernelIdeal.Gen.facts)
    (hPre_ego_names_a_cav := Cert.Pre_ego_names_a_cav.Gen.facts) :=
  fun m ρ h =>
    have bound := Cert.Preconditions.ego_bounds _ _ _ _ (h 0) fun a => a.elim0
    Cert.KernelIdeal.Hand.frame m ρ (Cert.KernelIdeal.Hand.ok_of_ego m bound.1 bound.2)

/-- and under the stronger precondition of the equality. -/
theorem ideal_frame_front : Cert.quiescent_KernelIdeal_pre_indices_count_from_front (hKernelIdeal := Cert.KernelIdeal.Gen.facts)
    (hPre_indices_count_from_front := Cert.Pre_indices_count_from_front.Gen.facts) :=
  fun m ρ h =>
    have bound := (Cert.Preconditions.index_bounds _ _ _ _ (h 0) fun a => a.elim0).1
    Cert.KernelIdeal.Hand.frame m ρ (Cert.KernelIdeal.Hand.ok_of_ego m bound.1 bound.2)

/-- The reference's frame asks nothing of the arguments. -/
theorem reference_frame : Cert.quiescent_ReferenceIdeal (hReferenceIdeal := Cert.ReferenceIdeal.Gen.facts) :=
  fun m ρ _ => (θ_run _ _ _).mono (fun _ h => ⟨fun c => (h.1 c).2, h.2⟩) (Cert.ReferenceIdeal.Hand.run_all m ρ)

theorem reference_frame_front : Cert.quiescent_ReferenceIdeal_pre_indices_count_from_front (hReferenceIdeal := Cert.ReferenceIdeal.Gen.facts)
    (hPre_indices_count_from_front := Cert.Pre_indices_count_from_front.Gen.facts) :=
  fun m ρ _ => reference_frame m ρ trivial

/-- A word that is not negative, read signed, is below 2³¹. -/
theorem below_half (w : BitVec 32) (h : 0 ≤ w.toInt) : w.toNat < 2 ^ 31 := by
  have := BitVec.toInt_eq_toNat_cond w
  have := w.isLt
  split at * <;> omega

/-- The kernel and the reference end with equal results, element by element: both are the fused map. -/
theorem equal : Cert.algebraic_KernelIdeal_ReferenceIdeal_pre_indices_count_from_front (hKernelIdeal := Cert.KernelIdeal.Gen.facts)
    (hReferenceIdeal := Cert.ReferenceIdeal.Gen.facts) (hPre_indices_count_from_front := Cert.Pre_indices_count_from_front.Gen.facts) :=
  fun m ρ m' ρ' h agree => by
    have bound := (Cert.Preconditions.index_bounds _ _ _ _ (h 0) fun a => a.elim0).1
    have front := fun c => (Cert.Preconditions.index_bounds _ _ _ _ (h c) fun a => a.elim0).2
    have he := Cert.Words.egoWord_lt (Cert.KernelIdeal.Hand.egoArg m) bound.1 bound.2
    have hO := Cert.KernelIdeal.Hand.ok_of_ego m bound.1 bound.2
    refine ⟨fun c => Cert.KernelIdeal.Hand.result m c he, Cert.KernelIdeal.Hand.run_result m ρ hO he fun c k => below_half _ (front c k), ?_⟩
    refine (θ_run _ _ _).mono (fun r hr c => ⟨(hr.1 c).1.trans ?_, (hr.1 c).2⟩) (Cert.ReferenceIdeal.Hand.run_all m' ρ')
    obtain rfl : c = 0 := Subsingleton.elim _ _
    obtain ⟨e0, e1, e2, e3⟩ := agree 0
    rw [e0, e1, e2, e3]
    exact Cert.ReferenceIdeal.Hand.answer_eq _ _ _ _ (front 0) he

theorem claim : Cert.Claim := ⟨Cert.Kernel.Gen.facts, Cert.KernelIdeal.Gen.facts, Cert.ReferenceIdeal.Gen.facts,
  Cert.Pre_ego_names_a_cav.Gen.facts, Cert.Pre_indices_count_from_front.Gen.facts,
  kernel_frame, ideal_frame, ideal_frame_front, reference_frame, reference_frame_front, trivial, equal⟩

end Cert.Proof

end
